-- ==== Defs.lean ====
def Pre_Mlp [hPre_mlp_layer : Cert.Pre_mlp_layer.Facts] (m : (ℓ : Loc Cert.Mlp.nD Cert.Mlp.τ Cert.Mlp.sig) → Buf (Elt Bits) ℓ) : Prop :=
  ∀ c : Dev Cert.Mlp.nD,
    (Cert.Pre_mlp_layer.fn (F := Bits) (m ((c.tc : Thread Cert.Mlp.nD Cert.Mlp.τ).loc Cert.Mlp.main_arg0)) (m ((c.tc : Thread Cert.Mlp.nD Cert.Mlp.τ).loc Cert.Mlp.main_arg1)) (m ((c.tc : Thread Cert.Mlp.nD Cert.Mlp.τ).loc Cert.Mlp.main_arg2)) (m ((c.tc : Thread Cert.Mlp.nD Cert.Mlp.τ).loc Cert.Mlp.main_arg3)) (m ((c.tc : Thread Cert.Mlp.nD Cert.Mlp.τ).loc Cert.Mlp.main_arg4))) = (fun _ => 1#1)

def Pre_MlpIdeal [hPre_mlp_layer : Cert.Pre_mlp_layer.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_layer.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_layer [hPre_mlp_layer : Cert.Pre_mlp_layer.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_layer.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))) = (fun _ => 1#1)

def Pre_Inproj [hPre_inproj_layer : Cert.Pre_inproj_layer.Facts] (m : (ℓ : Loc Cert.Inproj.nD Cert.Inproj.τ Cert.Inproj.sig) → Buf (Elt Bits) ℓ) : Prop :=
  ∀ c : Dev Cert.Inproj.nD,
    (Cert.Pre_inproj_layer.fn (F := Bits) (m ((c.tc : Thread Cert.Inproj.nD Cert.Inproj.τ).loc Cert.Inproj.main_arg0)) (m ((c.tc : Thread Cert.Inproj.nD Cert.Inproj.τ).loc Cert.Inproj.main_arg1)) (m ((c.tc : Thread Cert.Inproj.nD Cert.Inproj.τ).loc Cert.Inproj.main_arg2)) (m ((c.tc : Thread Cert.Inproj.nD Cert.Inproj.τ).loc Cert.Inproj.main_arg3))) = (fun _ => 1#1)

def Pre_InprojIdeal [hPre_inproj_layer : Cert.Pre_inproj_layer.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_layer.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_layer [hPre_inproj_layer : Cert.Pre_inproj_layer.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_layer.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))) = (fun _ => 1#1)

def Pre_Merge [hPre_merge_layer : Cert.Pre_merge_layer.Facts] (m : (ℓ : Loc Cert.Merge.nD Cert.Merge.τ Cert.Merge.sig) → Buf (Elt Bits) ℓ) : Prop :=
  ∀ c : Dev Cert.Merge.nD,
    (Cert.Pre_merge_layer.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4)) (m ((c.tc : Thread Cert.Merge.nD Cert.Merge.τ).loc Cert.Merge.main_arg5)) (m ((c.tc : Thread Cert.Merge.nD Cert.Merge.τ).loc Cert.Merge.main_arg6)) (m ((c.tc : Thread Cert.Merge.nD Cert.Merge.τ).loc Cert.Merge.main_arg7)) (m ((c.tc : Thread Cert.Merge.nD Cert.Merge.τ).loc Cert.Merge.main_arg8)) (m ((c.tc : Thread Cert.Merge.nD Cert.Merge.τ).loc Cert.Merge.main_arg9))) = (fun _ => 1#1)

def Pre_MergeIdeal [hPre_merge_layer : Cert.Pre_merge_layer.Facts] (m : (ℓ : Loc Cert.MergeIdeal.nD Cert.MergeIdeal.τ Cert.MergeIdeal.sig) → Buf (Elt Ideal) ℓ) : Prop :=
  ∀ c : Dev Cert.MergeIdeal.nD,
    (Cert.Pre_merge_layer.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_layer [hPre_merge_layer : Cert.Pre_merge_layer.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_layer.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_Oproj [hPre_oproj_layer : Cert.Pre_oproj_layer.Facts] (m : (ℓ : Loc Cert.Oproj.nD Cert.Oproj.τ Cert.Oproj.sig) → Buf (Elt Bits) ℓ) : Prop :=
  ∀ c : Dev Cert.Oproj.nD,
    (Cert.Pre_oproj_layer.fn (F := Bits) (m ((c.tc : Thread Cert.Oproj.nD Cert.Oproj.τ).loc Cert.Oproj.main_arg0)) (m ((c.tc : Thread Cert.Oproj.nD Cert.Oproj.τ).loc Cert.Oproj.main_arg1)) (m ((c.tc : Thread Cert.Oproj.nD Cert.Oproj.τ).loc Cert.Oproj.main_arg2)) (m ((c.tc : Thread Cert.Oproj.nD Cert.Oproj.τ).loc Cert.Oproj.main_arg3))) = (fun _ => 1#1)

def Pre_OprojIdeal [hPre_oproj_layer : Cert.Pre_oproj_layer.Facts] (m : (ℓ : Loc Cert.OprojIdeal.nD Cert.OprojIdeal.τ Cert.OprojIdeal.sig) → Buf (Elt Ideal) ℓ) : Prop :=
  ∀ c : Dev Cert.OprojIdeal.nD,
    (Cert.Pre_oproj_layer.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3))) = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_oproj_layer [hPre_oproj_layer : Cert.Pre_oproj_layer.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_oproj_layer.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3))) = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Mlp [hMlp : Cert.Mlp.Facts] [hPre_mlp_layer : Cert.Pre_mlp_layer.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] [hPre_mlp_layer : Cert.Pre_mlp_layer.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_mlp_layer [hMlpRefIdeal : Cert.MlpRefIdeal.Facts] [hPre_mlp_layer : Cert.Pre_mlp_layer.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_layer m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Inproj [hInproj : Cert.Inproj.Facts] [hPre_inproj_layer : Cert.Pre_inproj_layer.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] [hPre_inproj_layer : Cert.Pre_inproj_layer.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_InprojRefIdeal_pre_inproj_layer [hInprojRefIdeal : Cert.InprojRefIdeal.Facts] [hPre_inproj_layer : Cert.Pre_inproj_layer.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_layer m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] [hPre_merge_layer : Cert.Pre_merge_layer.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] [hPre_merge_layer : Cert.Pre_merge_layer.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_merge_layer [hMergeRefIdeal : Cert.MergeRefIdeal.Facts] [hPre_merge_layer : Cert.Pre_merge_layer.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_layer m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Oproj [hOproj : Cert.Oproj.Facts] [hPre_oproj_layer : Cert.Pre_oproj_layer.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] [hPre_oproj_layer : Cert.Pre_oproj_layer.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_OprojRefIdeal_pre_oproj_layer [hOprojRefIdeal : Cert.OprojRefIdeal.Facts] [hPre_oproj_layer : Cert.Pre_oproj_layer.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_oproj_layer m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] [hPre_mlp_layer : Cert.Pre_mlp_layer.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v32) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Inproj_InprojIdeal : Prop :=
  True

def algebraic_InprojIdeal_InprojRefIdeal [hInprojIdeal : Cert.InprojIdeal.Facts] [hInprojRefIdeal : Cert.InprojRefIdeal.Facts] [hPre_inproj_layer : Cert.Pre_inproj_layer.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v21) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] [hPre_merge_layer : Cert.Pre_merge_layer.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v77) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Oproj_OprojIdeal : Prop :=
  True

def algebraic_OprojIdeal_OprojRefIdeal [hOprojIdeal : Cert.OprojIdeal.Facts] [hOprojRefIdeal : Cert.OprojRefIdeal.Facts] [hPre_oproj_layer : Cert.Pre_oproj_layer.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v10) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3))

def preserves_Bias_BiasIdeal : Prop :=
  IdealRules.named_const.Statement Cert.BiasIdeal.κ "log_128" .f32 0x409B43D5#32 ((Real.log 128 : ℝ) : EReal)
  ∧ IdealRules.named_const.Statement Cert.BiasIdeal.κ "log2_e" .f32 0x3FB8AA3B#32 (((Real.log 2)⁻¹ : ℝ) : EReal)
  ∧ IdealRules.named_const.Statement Cert.BiasIdeal.κ "mask" .f32 0xF149F2CA#32 ⊥

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v48) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hOproj : Cert.Oproj.Facts) (hOprojIdeal : Cert.OprojIdeal.Facts) (hOprojRefIdeal : Cert.OprojRefIdeal.Facts) (hBias : Cert.Bias.Facts) (hBiasIdeal : Cert.BiasIdeal.Facts) (hBiasRefIdeal : Cert.BiasRefIdeal.Facts) (hPre_mlp_layer : Cert.Pre_mlp_layer.Facts) (hPre_inproj_layer : Cert.Pre_inproj_layer.Facts) (hPre_merge_layer : Cert.Pre_merge_layer.Facts) (hPre_oproj_layer : Cert.Pre_oproj_layer.Facts),
    quiescent_Mlp (hMlp := hMlp) (hPre_mlp_layer := hPre_mlp_layer)
    ∧ quiescent_MlpIdeal (hMlpIdeal := hMlpIdeal) (hPre_mlp_layer := hPre_mlp_layer)
    ∧ quiescent_MlpRefIdeal (hMlpRefIdeal := hMlpRefIdeal)
    ∧ quiescent_MlpRefIdeal_pre_mlp_layer (hMlpRefIdeal := hMlpRefIdeal) (hPre_mlp_layer := hPre_mlp_layer)
    ∧ quiescent_Inproj (hInproj := hInproj) (hPre_inproj_layer := hPre_inproj_layer)
    ∧ quiescent_InprojIdeal (hInprojIdeal := hInprojIdeal) (hPre_inproj_layer := hPre_inproj_layer)
    ∧ quiescent_InprojRefIdeal (hInprojRefIdeal := hInprojRefIdeal)
    ∧ quiescent_InprojRefIdeal_pre_inproj_layer (hInprojRefIdeal := hInprojRefIdeal) (hPre_inproj_layer := hPre_inproj_layer)
    ∧ quiescent_Merge (hMerge := hMerge) (hPre_merge_layer := hPre_merge_layer)
    ∧ quiescent_MergeIdeal (hMergeIdeal := hMergeIdeal) (hPre_merge_layer := hPre_merge_layer)
    ∧ quiescent_MergeRefIdeal (hMergeRefIdeal := hMergeRefIdeal)
    ∧ quiescent_MergeRefIdeal_pre_merge_layer (hMergeRefIdeal := hMergeRefIdeal) (hPre_merge_layer := hPre_merge_layer)
    ∧ quiescent_Oproj (hOproj := hOproj) (hPre_oproj_layer := hPre_oproj_layer)
    ∧ quiescent_OprojIdeal (hOprojIdeal := hOprojIdeal) (hPre_oproj_layer := hPre_oproj_layer)
    ∧ quiescent_OprojRefIdeal (hOprojRefIdeal := hOprojRefIdeal)
    ∧ quiescent_OprojRefIdeal_pre_oproj_layer (hOprojRefIdeal := hOprojRefIdeal) (hPre_oproj_layer := hPre_oproj_layer)
    ∧ quiescent_Bias (hBias := hBias)
    ∧ quiescent_BiasIdeal (hBiasIdeal := hBiasIdeal)
    ∧ quiescent_BiasRefIdeal (hBiasRefIdeal := hBiasRefIdeal)
    ∧ preserves_Mlp_MlpIdeal
    ∧ algebraic_MlpIdeal_MlpRefIdeal (hMlpIdeal := hMlpIdeal) (hMlpRefIdeal := hMlpRefIdeal) (hPre_mlp_layer := hPre_mlp_layer)
    ∧ preserves_Inproj_InprojIdeal
    ∧ algebraic_InprojIdeal_InprojRefIdeal (hInprojIdeal := hInprojIdeal) (hInprojRefIdeal := hInprojRefIdeal) (hPre_inproj_layer := hPre_inproj_layer)
    ∧ preserves_Merge_MergeIdeal
    ∧ algebraic_MergeIdeal_MergeRefIdeal (hMergeIdeal := hMergeIdeal) (hMergeRefIdeal := hMergeRefIdeal) (hPre_merge_layer := hPre_merge_layer)
    ∧ preserves_Oproj_OprojIdeal
    ∧ algebraic_OprojIdeal_OprojRefIdeal (hOprojIdeal := hOprojIdeal) (hOprojRefIdeal := hOprojRefIdeal) (hPre_oproj_layer := hPre_oproj_layer)
    ∧ preserves_Bias_BiasIdeal
    ∧ algebraic_BiasIdeal_BiasRefIdeal (hBiasIdeal := hBiasIdeal) (hBiasRefIdeal := hBiasRefIdeal)
-- ==== Pre_inproj_layer.lean ====
abbrev S1 : Shape := ⟨1, ![1]⟩
abbrev S32768x2048 : Shape := ⟨2, ![32768, 2048]⟩
abbrev S1x2048 : Shape := ⟨2, ![1, 2048]⟩
abbrev S4x2048x13312 : Shape := ⟨3, ![4, 2048, 13312]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S32768x2048 .f32) (main_arg2 : FVec F S1x2048 .f32) (main_arg3 : FVec F S4x2048x13312 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_merge_layer.lean ====
abbrev S1 : Shape := ⟨1, ![1]⟩
abbrev S32768x512 : Shape := ⟨2, ![32768, 512]⟩
abbrev S4x512x2048 : Shape := ⟨3, ![4, 512, 2048]⟩
abbrev S32768x13312 : Shape := ⟨2, ![32768, 13312]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S32768x512 .bf16) (main_arg2 : FVec F S32768x512 .bf16) (main_arg3 : FVec F S32768x512 .bf16) (main_arg4 : FVec F S32768x512 .bf16) (main_arg5 : FVec F S4x512x2048 .f32) (main_arg6 : FVec F S4x512x2048 .f32) (main_arg7 : FVec F S4x512x2048 .f32) (main_arg8 : FVec F S4x512x2048 .f32) (main_arg9 : FVec F S32768x13312 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_mlp_layer.lean ====
abbrev S1 : Shape := ⟨1, ![1]⟩
abbrev S32768x2048 : Shape := ⟨2, ![32768, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S32768x2048 .f32) (main_arg2 : FVec F S1x2048 .f32) (main_arg3 : FVec F S4x2048x8192 .f32) (main_arg4 : FVec F S4x8192x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_oproj_layer.lean ====
abbrev S1 : Shape := ⟨1, ![1]⟩
abbrev S32768x2048 : Shape := ⟨2, ![32768, 2048]⟩
abbrev S4x2048x2048 : Shape := ⟨3, ![4, 2048, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S32768x2048 .f32) (main_arg2 : FVec F S32768x2048 .bf16) (main_arg3 : FVec F S4x2048x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Mlp.lean ====
abbrev S1 : Shape := ⟨1, ![1]⟩
abbrev S32768x2048 : Shape := ⟨2, ![32768, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 10
  | .smem => 1
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x2048x8192, .f32⟩
  | .hbm, ⟨3, _⟩ => ⟨S4x8192x2048, .f32⟩
  | .hbm, ⟨4, _⟩ => ⟨S4x2048x8192, .bf16⟩
  | .hbm, ⟨5, _⟩ => ⟨S4x8192x2048, .bf16⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .smem, ⟨0, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c8_i32 : BitVec 32 := 8#32
  let v18 : BitVec 32 := Scalar.addi c0_i32_14 c8_i32
  let c1_i32 : BitVec 32 := 1#32
  ⟨c0_i32_14, v18, c1_i32⟩
def k0_mult1 (k0_t1 : Fin k0_t1_loop.trips) : BitVec 32 :=
  let c0_i32_14 : BitVec 32 := 0#32
  let c1_i32 : BitVec 32 := 1#32
  let arg9 : BitVec 32 := Scf.iv c0_i32_14 c1_i32 k0_t1
  let c128_i32 : BitVec 32 := 128#32
  let v21 : BitVec 32 := Scalar.muli arg9 c128_i32
  v21
def k0_off1 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let c128_i32 : BitVec 32 := 128#32
  let v21 : BitVec 32 := Scalar.muli arg9 c128_i32
  let v22 : BitVec 32 := v21
  let v23 : Index := Scalar.indexCast v22
  let c0_20 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S1 : Shape := ⟨1, ![1]⟩
abbrev S32768x2048 : Shape := ⟨2, ![32768, 2048]⟩
abbrev S1x2048 : Shape := ⟨2, ![1, 2048]⟩
abbrev S4x2048x8192 : Shape := ⟨3, ![4, 2048, 8192]⟩
abbrev S4x8192x2048 : Shape := ⟨3, ![4, 8192, 2048]⟩
abbrev S_ : Shape := ⟨0, ![]⟩
abbrev S32768 : Shape := ⟨1, ![32768]⟩
abbrev S32768x1 : Shape := ⟨2, ![32768, 1]⟩
abbrev S1x1 : Shape := ⟨2, ![1, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x2048, .f32⟩
  | .hbm, ⟨2, _⟩ => ⟨S1x2048, .f32⟩
  | .hbm, ⟨3, _⟩ => ⟨S4x2048x8192, .f32⟩
  | .hbm, ⟨4, _⟩ => ⟨S4x8192x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S_, .i32⟩
  | .hbm, ⟨21, _⟩ => ⟨S1, .i32⟩
  | .hbm, ⟨22, _⟩ => ⟨S1, .i1⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S1, .i32⟩
  | .hbm, ⟨27, _⟩ => ⟨S1x1, .i32⟩
  | .hbm, ⟨28, _⟩ => ⟨S1x2048x8192, .f32⟩
  | .hbm, ⟨29, _⟩ => ⟨S2048x8192, .f32⟩
  | .hbm, ⟨30, _⟩ => ⟨S32768x8192, .f32⟩
  | .hbm, ⟨31, _⟩ => ⟨S_, .f32⟩
  | .hbm, ⟨32, _⟩ => ⟨S32768x8192, .f32⟩
  | .hbm, ⟨33, _⟩ => ⟨S32768x8192, .f32⟩
  | .hbm, ⟨34, _⟩ => ⟨S32768x8192, .f32⟩
  | .hbm, ⟨35, _⟩ => ⟨S_, .i32⟩
  | .hbm, ⟨36, _⟩ => ⟨S1, .i32⟩
  | .hbm, ⟨37, _⟩ => ⟨S1, .i1⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .i32⟩
  | .hbm, ⟨42, _⟩ => ⟨S1x1, .i32⟩
  | .hbm, ⟨43, _⟩ => ⟨S1x8192x2048, .f32⟩
  | .hbm, ⟨44, _⟩ => ⟨S8192x2048, .f32⟩
  | .hbm, ⟨45, _⟩ => ⟨S32768x2048, .f32⟩
  | .hbm, ⟨46, _⟩ => ⟨S32768x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Inproj.lean ====
abbrev S1 : Shape := ⟨1, ![1]⟩
abbrev S32768x2048 : Shape := ⟨2, ![32768, 2048]⟩
abbrev S1x2048 : Shape := ⟨2, ![1, 2048]⟩
abbrev S4x2048x13312 : Shape := ⟨3, ![4, 2048, 13312]⟩
abbrev S32768x13312 : Shape := ⟨2, ![32768, 13312]⟩
abbrev S1024x2048 : Shape := ⟨2, ![1024, 2048]⟩
abbrev S1x2048x1024 : Shape := ⟨3, ![1, 2048, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩
abbrev S2048x1024 : Shape := ⟨2, ![2048, 1024]⟩

abbrev nBuf : Space → Nat
  | .hbm => 5
  | .vmem => 8
  | .smem => 1
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S4x2048x13312, .f32⟩
  | .hbm, ⟨3, _⟩ => ⟨S4x2048x13312, .bf16⟩
  | .hbm, ⟨4, _⟩ => ⟨S32768x13312, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .smem, ⟨0, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 13], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v9 : BitVec 32 := Scalar.addi c0_i32_7 c8_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c128_i32 : BitVec 32 := 128#32
  let v10 : BitVec 32 := Scalar.muli arg8 c128_i32
  v10
def k0_off1 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c128_i32 : BitVec 32 := 128#32
  let v10 : BitVec 32 := Scalar.muli arg8 c128_i32
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 32 := Scalar.addi c0_i32 arg1
  let c0_i32_0 : BitVec 32 := 0#32
  let c0_i32_1 : BitVec 32 := 0#32
  ![v0.toNat, c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S1 : Shape := ⟨1, ![1]⟩
abbrev S32768x2048 : Shape := ⟨2, ![32768, 2048]⟩
abbrev S1x2048 : Shape := ⟨2, ![1, 2048]⟩
abbrev S4x2048x13312 : Shape := ⟨3, ![4, 2048, 13312]⟩
abbrev S_ : Shape := ⟨0, ![]⟩
abbrev S32768 : Shape := ⟨1, ![32768]⟩
abbrev S32768x1 : Shape := ⟨2, ![32768, 1]⟩
abbrev S1x1 : Shape := ⟨2, ![1, 1]⟩
abbrev S1x2048x13312 : Shape := ⟨3, ![1, 2048, 13312]⟩
abbrev S2048x13312 : Shape := ⟨2, ![2048, 13312]⟩
abbrev S32768x13312 : Shape := ⟨2, ![32768, 13312]⟩

abbrev nBuf : Space → Nat
  | .hbm => 31
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x2048, .f32⟩
  | .hbm, ⟨2, _⟩ => ⟨S1x2048, .f32⟩
  | .hbm, ⟨3, _⟩ => ⟨S4x2048x13312, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S1, .i32⟩
  | .hbm, ⟨26, _⟩ => ⟨S1x1, .i32⟩
  | .hbm, ⟨27, _⟩ => ⟨S1x2048x13312, .f32⟩
  | .hbm, ⟨28, _⟩ => ⟨S2048x13312, .f32⟩
  | .hbm, ⟨29, _⟩ => ⟨S32768x13312, .f32⟩
  | .hbm, ⟨30, _⟩ => ⟨S32768x13312, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Merge.lean ====
abbrev S1 : Shape := ⟨1, ![1]⟩
abbrev S32768x512 : Shape := ⟨2, ![32768, 512]⟩
abbrev S4x512x2048 : Shape := ⟨3, ![4, 512, 2048]⟩
abbrev S32768x13312 : Shape := ⟨2, ![32768, 13312]⟩
abbrev S32768x2048 : Shape := ⟨2, ![32768, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 14
  | .vmem => 26
  | .smem => 1
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S32768x13312, .bf16⟩
  | .hbm, ⟨9, _⟩ => ⟨S4x512x2048, .bf16⟩
  | .hbm, ⟨10, _⟩ => ⟨S4x512x2048, .bf16⟩
  | .hbm, ⟨11, _⟩ => ⟨S4x512x2048, .bf16⟩
  | .hbm, ⟨12, _⟩ => ⟨S4x512x2048, .bf16⟩
  | .hbm, ⟨13, _⟩ => ⟨S32768x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .smem, ⟨0, _⟩ => ⟨S1, .i32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S1 : Shape := ⟨1, ![1]⟩
abbrev S32768x512 : Shape := ⟨2, ![32768, 512]⟩
abbrev S4x512x2048 : Shape := ⟨3, ![4, 512, 2048]⟩
abbrev S32768x13312 : Shape := ⟨2, ![32768, 13312]⟩
abbrev S32768x8192 : Shape := ⟨2, ![32768, 8192]⟩
abbrev S_ : Shape := ⟨0, ![]⟩
abbrev S1x1 : Shape := ⟨2, ![1, 1]⟩
abbrev S1x512x2048 : Shape := ⟨3, ![1, 512, 2048]⟩
abbrev S512x2048 : Shape := ⟨2, ![512, 2048]⟩
abbrev S32768x2048 : Shape := ⟨2, ![32768, 2048]⟩

abbrev nBuf : Space → Nat
  | .hbm => 104
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S32768x13312, .bf16⟩
  | .hbm, ⟨10, _⟩ => ⟨S32768x8192, .bf16⟩
  | .hbm, ⟨11, _⟩ => ⟨S32768x8192, .f32⟩
  | .hbm, ⟨12, _⟩ => ⟨S32768x512, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1x1, .i32⟩
  | .hbm, ⟨21, _⟩ => ⟨S1x512x2048, .f32⟩
  | .hbm, ⟨22, _⟩ => ⟨S512x2048, .f32⟩
  | .hbm, ⟨23, _⟩ => ⟨S32768x2048, .f32⟩
  | .hbm, ⟨24, _⟩ => ⟨S32768x512, .f32⟩
  | .hbm, ⟨25, _⟩ => ⟨S_, .i32⟩
  | .hbm, ⟨26, _⟩ => ⟨S1, .i32⟩
  | .hbm, ⟨27, _⟩ => ⟨S1, .i1⟩
  | .hbm, ⟨28, _⟩ => ⟨S_, .i32⟩
  | .hbm, ⟨29, _⟩ => ⟨S1, .i32⟩
  | .hbm, ⟨30, _⟩ => ⟨S1, .i32⟩
  | .hbm, ⟨31, _⟩ => ⟨S1, .i32⟩
  | .hbm, ⟨32, _⟩ => ⟨S1x1, .i32⟩
  | .hbm, ⟨33, _⟩ => ⟨S1x512x2048, .f32⟩
  | .hbm, ⟨34, _⟩ => ⟨S512x2048, .f32⟩
  | .hbm, ⟨35, _⟩ => ⟨S32768x2048, .f32⟩
  | .hbm, ⟨36, _⟩ => ⟨S32768x512, .f32⟩
  | .hbm, ⟨37, _⟩ => ⟨S_, .i32⟩
  | .hbm, ⟨38, _⟩ => ⟨S1, .i32⟩
  | .hbm, ⟨39, _⟩ => ⟨S1, .i1⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S1x1, .i32⟩
  | .hbm, ⟨45, _⟩ => ⟨S1x512x2048, .f32⟩
  | .hbm, ⟨46, _⟩ => ⟨S512x2048, .f32⟩
  | .hbm, ⟨47, _⟩ => ⟨S32768x2048, .f32⟩
  | .hbm, ⟨48, _⟩ => ⟨S32768x512, .f32⟩
  | .hbm, ⟨49, _⟩ => ⟨S_, .i32⟩
  | .hbm, ⟨50, _⟩ => ⟨S1, .i32⟩
  | .hbm, ⟨51, _⟩ => ⟨S1, .i1⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S1x1, .i32⟩
  | .hbm, ⟨57, _⟩ => ⟨S1x512x2048, .f32⟩
  | .hbm, ⟨58, _⟩ => ⟨S512x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S32768x2048, .f32⟩
  | .hbm, ⟨63, _⟩ => ⟨S_, .f32⟩
  | .hbm, ⟨64, _⟩ => ⟨S32768x2048, .f32⟩
  | .hbm, ⟨65, _⟩ => ⟨S32768x2048, .f32⟩
  | .hbm, ⟨66, _⟩ => ⟨S_, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S32768x2048, .f32⟩
  | .hbm, ⟨71, _⟩ => ⟨S32768x2048, .f32⟩
  | .hbm, ⟨72, _⟩ => ⟨S_, .f32⟩
  | .hbm, ⟨73, _⟩ => ⟨S32768x2048, .f32⟩
  | .hbm, ⟨74, _⟩ => ⟨S32768x2048, .f32⟩
  | .hbm, ⟨75, _⟩ => ⟨S_, .f32⟩
  | .hbm, ⟨76, _⟩ => ⟨S32768x2048, .f32⟩
  | .hbm, ⟨77, _⟩ => ⟨S32768x2048, .f32⟩
  | .hbm, ⟨78, _⟩ => ⟨S32768x2048, .f32⟩
  | .hbm, ⟨79, _⟩ => ⟨S32768x2048, .f32⟩
  | .hbm, ⟨80, _⟩ => ⟨S32768x2048, .f32⟩
  | .hbm, ⟨81, _⟩ => ⟨S_, .f32⟩
  | .hbm, ⟨82, _⟩ => ⟨S32768x2048, .f32⟩
  | .hbm, ⟨83, _⟩ => ⟨S32768x2048, .f32⟩
  | .hbm, ⟨84, _⟩ => ⟨S_, .f32⟩
  | .hbm, ⟨85, _⟩ => ⟨S32768x2048, .f32⟩
  | .hbm, ⟨86, _⟩ => ⟨S32768x2048, .f32⟩
  | .hbm, ⟨87, _⟩ => ⟨S32768x2048, .f32⟩
  | .hbm, ⟨88, _⟩ => ⟨S32768x2048, .f32⟩
  | .hbm, ⟨89, _⟩ => ⟨S32768x2048, .f32⟩
  | .hbm, ⟨90, _⟩ => ⟨S_, .f32⟩
  | .hbm, ⟨91, _⟩ => ⟨S32768x2048, .f32⟩
  | .hbm, ⟨92, _⟩ => ⟨S32768x2048, .f32⟩
  | .hbm, ⟨93, _⟩ => ⟨S_, .f32⟩
  | .hbm, ⟨94, _⟩ => ⟨S32768x2048, .f32⟩
  | .hbm, ⟨95, _⟩ => ⟨S32768x2048, .f32⟩
  | .hbm, ⟨96, _⟩ => ⟨S32768x2048, .f32⟩
  | .hbm, ⟨97, _⟩ => ⟨S32768x2048, .f32⟩
  | .hbm, ⟨98, _⟩ => ⟨S32768x2048, .f32⟩
  | .hbm, ⟨99, _⟩ => ⟨S32768x2048, .f32⟩
  | .hbm, ⟨100, _⟩ => ⟨S32768x2048, .f32⟩
  | .hbm, ⟨101, _⟩ => ⟨S32768x2048, .f32⟩
  | .hbm, ⟨102, _⟩ => ⟨S32768x2048, .f32⟩
  | .hbm, ⟨103, _⟩ => ⟨S32768x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Oproj.lean ====
abbrev S1 : Shape := ⟨1, ![1]⟩
abbrev S32768x2048 : Shape := ⟨2, ![32768, 2048]⟩
abbrev S4x2048x2048 : Shape := ⟨3, ![4, 2048, 2048]⟩
abbrev S1024x1024 : Shape := ⟨2, ![1024, 1024]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 5
  | .vmem => 8
  | .smem => 1
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S4x2048x2048, .f32⟩
  | .hbm, ⟨3, _⟩ => ⟨S4x2048x2048, .bf16⟩
  | .hbm, ⟨4, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .f32⟩
  | .local _ .vmem, ⟨7, _⟩ => ⟨S1024x1024, .f32⟩
  | .local _ .smem, ⟨0, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OprojRefIdeal.lean ====
abbrev S1 : Shape := ⟨1, ![1]⟩
abbrev S32768x2048 : Shape := ⟨2, ![32768, 2048]⟩
abbrev S4x2048x2048 : Shape := ⟨3, ![4, 2048, 2048]⟩
abbrev S_ : Shape := ⟨0, ![]⟩
abbrev S1x1 : Shape := ⟨2, ![1, 1]⟩
abbrev S1x2048x2048 : Shape := ⟨3, ![1, 2048, 2048]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x2048, .f32⟩
  | .hbm, ⟨2, _⟩ => ⟨S32768x2048, .bf16⟩
  | .hbm, ⟨3, _⟩ => ⟨S4x2048x2048, .f32⟩
  | .hbm, ⟨4, _⟩ => ⟨S32768x2048, .f32⟩
  | .hbm, ⟨5, _⟩ => ⟨S_, .i32⟩
  | .hbm, ⟨6, _⟩ => ⟨S1, .i32⟩
  | .hbm, ⟨7, _⟩ => ⟨S1, .i1⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1x1, .i32⟩
  | .hbm, ⟨13, _⟩ => ⟨S1x2048x2048, .f32⟩
  | .hbm, ⟨14, _⟩ => ⟨S2048x2048, .f32⟩
  | .hbm, ⟨15, _⟩ => ⟨S32768x2048, .f32⟩
  | .hbm, ⟨16, _⟩ => ⟨S32768x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Bias.lean ====
abbrev S32x4 : Shape := ⟨2, ![32, 4]⟩
abbrev S4x32x256x256 : Shape := ⟨4, ![4, 32, 256, 256]⟩
abbrev S1x1x256x256 : Shape := ⟨4, ![1, 1, 256, 256]⟩
abbrev S256x256 : Shape := ⟨2, ![256, 256]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x4, .f32⟩
  | .hbm, ⟨1, _⟩ => ⟨S4x32x256x256, .f32⟩
  | .local _ .vmem, ⟨0, _⟩ => ⟨S1x1x256x256, .f32⟩
  | .local _ .vmem, ⟨1, _⟩ => ⟨S1x1x256x256, .f32⟩
  | .local _ .smem, ⟨0, _⟩ => ⟨S32x4, .f32⟩
  | _, _ => ⟨S32x4, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![4, 32], ![false, false]⟩

def k0_off1 (i : grid0.Coords) : Fin 2 → Nat :=
  let c0 : Index := 0#32
  let arg0 : BitVec 32 := BitVec.ofNat 32 (i 0).val
  let v29 : Index := Scalar.indexCast arg0
  ![0, v29.toNat]
def k0_off2 (i : grid0.Coords) : Fin 2 → Nat :=
  let c1 : Index := 1#32
  let arg0 : BitVec 32 := BitVec.ofNat 32 (i 0).val
  let v35 : Index := Scalar.indexCast arg0
  ![1, v35.toNat]
def k0_off3 (i : grid0.Coords) : Fin 2 → Nat :=
  let c2 : Index := 2#32
  let arg0 : BitVec 32 := BitVec.ofNat 32 (i 0).val
  let v41 : Index := Scalar.indexCast arg0
  ![2, v41.toNat]
def k0_off4 (i : grid0.Coords) : Fin 2 → Nat :=
  let c3 : Index := 3#32
  let arg0 : BitVec 32 := BitVec.ofNat 32 (i 0).val
  let v47 : Index := Scalar.indexCast arg0
  ![3, v47.toNat]
def k0_off5 (i : grid0.Coords) : Fin 2 → Nat :=
  let c4 : Index := 4#32
  let arg0 : BitVec 32 := BitVec.ofNat 32 (i 0).val
  let v53 : Index := Scalar.indexCast arg0
  ![4, v53.toNat]
def k0_off6 (i : grid0.Coords) : Fin 2 → Nat :=
  let c5 : Index := 5#32
  let arg0 : BitVec 32 := BitVec.ofNat 32 (i 0).val
  let v59 : Index := Scalar.indexCast arg0
  ![5, v59.toNat]
def k0_off7 (i : grid0.Coords) : Fin 2 → Nat :=
  let c6 : Index := 6#32
  let arg0 : BitVec 32 := BitVec.ofNat 32 (i 0).val
  let v65 : Index := Scalar.indexCast arg0
  ![6, v65.toNat]
def k0_off8 (i : grid0.Coords) : Fin 2 → Nat :=
  let c7 : Index := 7#32
  let arg0 : BitVec 32 := BitVec.ofNat 32 (i 0).val
  let v71 : Index := Scalar.indexCast arg0
  ![7, v71.toNat]
def k0_off9 (i : grid0.Coords) : Fin 2 → Nat :=
  let c8 : Index := 8#32
  let arg0 : BitVec 32 := BitVec.ofNat 32 (i 0).val
  let v77 : Index := Scalar.indexCast arg0
  ![8, v77.toNat]
def k0_off10 (i : grid0.Coords) : Fin 2 → Nat :=
  let c9 : Index := 9#32
  let arg0 : BitVec 32 := BitVec.ofNat 32 (i 0).val
  let v83 : Index := Scalar.indexCast arg0
  ![9, v83.toNat]
def k0_off11 (i : grid0.Coords) : Fin 2 → Nat :=
  let c10 : Index := 10#32
  let arg0 : BitVec 32 := BitVec.ofNat 32 (i 0).val
  let v89 : Index := Scalar.indexCast arg0
  ![10, v89.toNat]
def k0_off12 (i : grid0.Coords) : Fin 2 → Nat :=
  let c11 : Index := 11#32
  let arg0 : BitVec 32 := BitVec.ofNat 32 (i 0).val
  let v95 : Index := Scalar.indexCast arg0
  ![11, v95.toNat]
def k0_off13 (i : grid0.Coords) : Fin 2 → Nat :=
  let c12 : Index := 12#32
  let arg0 : BitVec 32 := BitVec.ofNat 32 (i 0).val
  let v101 : Index := Scalar.indexCast arg0
  ![12, v101.toNat]
def k0_off14 (i : grid0.Coords) : Fin 2 → Nat :=
  let c13 : Index := 13#32
  let arg0 : BitVec 32 := BitVec.ofNat 32 (i 0).val
  let v107 : Index := Scalar.indexCast arg0
  ![13, v107.toNat]
def k0_off15 (i : grid0.Coords) : Fin 2 → Nat :=
  let c14 : Index := 14#32
  let arg0 : BitVec 32 := BitVec.ofNat 32 (i 0).val
  let v113 : Index := Scalar.indexCast arg0
  ![14, v113.toNat]
def k0_off16 (i : grid0.Coords) : Fin 2 → Nat :=
  let c15 : Index := 15#32
  let arg0 : BitVec 32 := BitVec.ofNat 32 (i 0).val
  let v119 : Index := Scalar.indexCast arg0
  ![15, v119.toNat]
def k0_off17 (i : grid0.Coords) : Fin 2 → Nat :=
  let c16 : Index := 16#32
  let arg0 : BitVec 32 := BitVec.ofNat 32 (i 0).val
  let v125 : Index := Scalar.indexCast arg0
  ![16, v125.toNat]
def k0_off18 (i : grid0.Coords) : Fin 2 → Nat :=
  let c17 : Index := 17#32
  let arg0 : BitVec 32 := BitVec.ofNat 32 (i 0).val
  let v131 : Index := Scalar.indexCast arg0
  ![17, v131.toNat]
def k0_off19 (i : grid0.Coords) : Fin 2 → Nat :=
  let c18 : Index := 18#32
  let arg0 : BitVec 32 := BitVec.ofNat 32 (i 0).val
  let v137 : Index := Scalar.indexCast arg0
  ![18, v137.toNat]
def k0_off20 (i : grid0.Coords) : Fin 2 → Nat :=
  let c19 : Index := 19#32
  let arg0 : BitVec 32 := BitVec.ofNat 32 (i 0).val
  let v143 : Index := Scalar.indexCast arg0
  ![19, v143.toNat]
def k0_off21 (i : grid0.Coords) : Fin 2 → Nat :=
  let c20 : Index := 20#32
  let arg0 : BitVec 32 := BitVec.ofNat 32 (i 0).val
  let v149 : Index := Scalar.indexCast arg0
  ![20, v149.toNat]
def k0_off22 (i : grid0.Coords) : Fin 2 → Nat :=
  let c21 : Index := 21#32
  let arg0 : BitVec 32 := BitVec.ofNat 32 (i 0).val
  let v155 : Index := Scalar.indexCast arg0
  ![21, v155.toNat]
def k0_off23 (i : grid0.Coords) : Fin 2 → Nat :=
  let c22 : Index := 22#32
  let arg0 : BitVec 32 := BitVec.ofNat 32 (i 0).val
  let v161 : Index := Scalar.indexCast arg0
  ![22, v161.toNat]
def k0_off24 (i : grid0.Coords) : Fin 2 → Nat :=
  let c23 : Index := 23#32
  let arg0 : BitVec 32 := BitVec.ofNat 32 (i 0).val
  let v167 : Index := Scalar.indexCast arg0
  ![23, v167.toNat]
def k0_off25 (i : grid0.Coords) : Fin 2 → Nat :=
  let c24 : Index := 24#32
  let arg0 : BitVec 32 := BitVec.ofNat 32 (i 0).val
  let v173 : Index := Scalar.indexCast arg0
  ![24, v173.toNat]
def k0_off26 (i : grid0.Coords) : Fin 2 → Nat :=
  let c25 : Index := 25#32
  let arg0 : BitVec 32 := BitVec.ofNat 32 (i 0).val
  let v179 : Index := Scalar.indexCast arg0
  ![25, v179.toNat]
def k0_off27 (i : grid0.Coords) : Fin 2 → Nat :=
  let c26 : Index := 26#32
  let arg0 : BitVec 32 := BitVec.ofNat 32 (i 0).val
  let v185 : Index := Scalar.indexCast arg0
  ![26, v185.toNat]
def k0_off28 (i : grid0.Coords) : Fin 2 → Nat :=
  let c27 : Index := 27#32
  let arg0 : BitVec 32 := BitVec.ofNat 32 (i 0).val
  let v191 : Index := Scalar.indexCast arg0
  ![27, v191.toNat]
def k0_off29 (i : grid0.Coords) : Fin 2 → Nat :=
  let c28 : Index := 28#32
  let arg0 : BitVec 32 := BitVec.ofNat 32 (i 0).val
  let v197 : Index := Scalar.indexCast arg0
  ![28, v197.toNat]
def k0_off30 (i : grid0.Coords) : Fin 2 → Nat :=
  let c29 : Index := 29#32
  let arg0 : BitVec 32 := BitVec.ofNat 32 (i 0).val
  let v203 : Index := Scalar.indexCast arg0
  ![29, v203.toNat]
def k0_off31 (i : grid0.Coords) : Fin 2 → Nat :=
  let c30 : Index := 30#32
  let arg0 : BitVec 32 := BitVec.ofNat 32 (i 0).val
  let v209 : Index := Scalar.indexCast arg0
  ![30, v209.toNat]
def k0_off32 (i : grid0.Coords) : Fin 2 → Nat :=
  let c31 : Index := 31#32
  let arg0 : BitVec 32 := BitVec.ofNat 32 (i 0).val
  let v215 : Index := Scalar.indexCast arg0
  ![31, v215.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== BiasIdeal.lean ====
variable {F : FTy → Type} [FloatOps F] [Named F]
def κ : String → Option EReal := fun
  | "log2_e" => some (((Real.log 2)⁻¹ : ℝ) : EReal)
  | "log_128" => some ((Real.log 128 : ℝ) : EReal)
  | "mask" => some ⊥
  | _ => none
-- ==== BiasRefIdeal.lean ====
abbrev S32x4 : Shape := ⟨2, ![32, 4]⟩
abbrev S32 : Shape := ⟨1, ![32]⟩
abbrev S32x1x1 : Shape := ⟨3, ![32, 1, 1]⟩
abbrev S256 : Shape := ⟨1, ![256]⟩
abbrev S1x256x1 : Shape := ⟨3, ![1, 256, 1]⟩
abbrev S1x1x256 : Shape := ⟨3, ![1, 1, 256]⟩
abbrev S_ : Shape := ⟨0, ![]⟩
abbrev S32x1x256 : Shape := ⟨3, ![32, 1, 256]⟩
abbrev S32x256x256 : Shape := ⟨3, ![32, 256, 256]⟩
abbrev S32x256x256x1 : Shape := ⟨4, ![32, 256, 256, 1]⟩
abbrev S32x256x256x4 : Shape := ⟨4, ![32, 256, 256, 4]⟩
abbrev S4x32x256x256 : Shape := ⟨4, ![4, 32, 256, 256]⟩

abbrev nBuf : Space → Nat
  | .hbm => 67
  | .vmem => 0
  | .smem => 0
  | _ => 0

abbrev bufTy : (tb : Table) → Fin (tcTables nBuf tb) → BufTy
  | .hbm, ⟨0, _⟩ => ⟨S32x4, .f32⟩
  | .hbm, ⟨1, _⟩ => ⟨S32, .i32⟩
  | .hbm, ⟨2, _⟩ => ⟨S32x1x1, .i32⟩
  | .hbm, ⟨3, _⟩ => ⟨S256, .i32⟩
  | .hbm, ⟨4, _⟩ => ⟨S1x256x1, .i32⟩
  | .hbm, ⟨5, _⟩ => ⟨S256, .i32⟩
  | .hbm, ⟨6, _⟩ => ⟨S1x1x256, .i32⟩
  | .hbm, ⟨7, _⟩ => ⟨S_, .i32⟩
  | .hbm, ⟨8, _⟩ => ⟨S32x1x1, .i32⟩
  | .hbm, ⟨9, _⟩ => ⟨S32x1x1, .i32⟩
  | .hbm, ⟨10, _⟩ => ⟨S32x1x256, .i32⟩
  | .hbm, ⟨11, _⟩ => ⟨S32x1x256, .i32⟩
  | .hbm, ⟨12, _⟩ => ⟨S32x1x256, .i32⟩
  | .hbm, ⟨13, _⟩ => ⟨S32x256x256, .i32⟩
  | .hbm, ⟨14, _⟩ => ⟨S32x256x256, .i32⟩
  | .hbm, ⟨15, _⟩ => ⟨S32x256x256, .i32⟩
  | .hbm, ⟨16, _⟩ => ⟨S_, .i32⟩
  | .hbm, ⟨17, _⟩ => ⟨S32x256x256, .i32⟩
  | .hbm, ⟨18, _⟩ => ⟨S32x256x256, .i32⟩
  | .hbm, ⟨19, _⟩ => ⟨S_, .i32⟩
  | .hbm, ⟨20, _⟩ => ⟨S32x256x256, .i32⟩
  | .hbm, ⟨21, _⟩ => ⟨S32x256x256, .i32⟩
  | .hbm, ⟨22, _⟩ => ⟨S32x256x256, .f32⟩
  | .hbm, ⟨23, _⟩ => ⟨S_, .f32⟩
  | .hbm, ⟨24, _⟩ => ⟨S32x256x256, .f32⟩
  | .hbm, ⟨25, _⟩ => ⟨S32x256x256, .f32⟩
  | .hbm, ⟨26, _⟩ => ⟨S32x256x256, .f32⟩
  | .hbm, ⟨27, _⟩ => ⟨S_, .f32⟩
  | .hbm, ⟨28, _⟩ => ⟨S_, .f32⟩
  | .hbm, ⟨29, _⟩ => ⟨S32x256x256, .f32⟩
  | .hbm, ⟨30, _⟩ => ⟨S32x256x256, .f32⟩
  | .hbm, ⟨31, _⟩ => ⟨S_, .f32⟩
  | .hbm, ⟨32, _⟩ => ⟨S32x256x256, .f32⟩
  | .hbm, ⟨33, _⟩ => ⟨S32x256x256, .f32⟩
  | .hbm, ⟨34, _⟩ => ⟨S32x256x256, .i32⟩
  | .hbm, ⟨35, _⟩ => ⟨S_, .i32⟩
  | .hbm, ⟨36, _⟩ => ⟨S32x256x256, .i32⟩
  | .hbm, ⟨37, _⟩ => ⟨S32x256x256, .i32⟩
  | .hbm, ⟨38, _⟩ => ⟨S_, .i32⟩
  | .hbm, ⟨39, _⟩ => ⟨S32x256x256, .i32⟩
  | .hbm, ⟨40, _⟩ => ⟨S32x256x256, .i32⟩
  | .hbm, ⟨41, _⟩ => ⟨S_, .i32⟩
  | .hbm, ⟨42, _⟩ => ⟨S32x256x256, .i32⟩
  | .hbm, ⟨43, _⟩ => ⟨S32x256x256, .i1⟩
  | .hbm, ⟨44, _⟩ => ⟨S32x256x256, .i32⟩
  | .hbm, ⟨45, _⟩ => ⟨S_, .i32⟩
  | .hbm, ⟨46, _⟩ => ⟨S32x256x256, .i32⟩
  | .hbm, ⟨47, _⟩ => ⟨S32x256x256, .i1⟩
  | .hbm, ⟨48, _⟩ => ⟨S_, .i32⟩
  | .hbm, ⟨49, _⟩ => ⟨S32x256x256, .i32⟩
  | .hbm, ⟨50, _⟩ => ⟨S32x256x256, .i32⟩
  | .hbm, ⟨51, _⟩ => ⟨S32x256x256, .i32⟩
  | .hbm, ⟨52, _⟩ => ⟨S32x256x256x1, .i32⟩
  | .hbm, ⟨53, _⟩ => ⟨S32x256x256x4, .f32⟩
  | .hbm, ⟨54, _⟩ => ⟨S4x32x256x256, .f32⟩
  | .hbm, ⟨55, _⟩ => ⟨S_, .i32⟩
  | .hbm, ⟨56, _⟩ => ⟨S32x256x256, .i32⟩
  | .hbm, ⟨57, _⟩ => ⟨S32x256x256, .i1⟩
  | .hbm, ⟨58, _⟩ => ⟨S_, .f32⟩
  | .hbm, ⟨59, _⟩ => ⟨S_, .f32⟩
  | .hbm, ⟨60, _⟩ => ⟨S4x32x256x256, .f32⟩
  | .hbm, ⟨61, _⟩ => ⟨S4x32x256x256, .f32⟩
  | .hbm, ⟨62, _⟩ => ⟨S_, .f32⟩
  | .hbm, ⟨63, _⟩ => ⟨S_, .f32⟩
  | .hbm, ⟨64, _⟩ => ⟨S4x32x256x256, .i1⟩
  | .hbm, ⟨65, _⟩ => ⟨S4x32x256x256, .f32⟩
  | .hbm, ⟨66, _⟩ => ⟨S4x32x256x256, .f32⟩
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_9 : Ref sig .tc := ⟨.hbm, 55, rfl⟩
abbrev main_v43 : Ref sig .tc := ⟨.hbm, 56, rfl⟩
abbrev main_v44 : Ref sig .tc := ⟨.hbm, 57, rfl⟩
abbrev main_cst_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.References.lean ====
/- The references run, leave their arguments as they were, and use no semaphore. -/
module

public import proofs.«01_k».proof.Defs
public import proofs.«01_k».proof.Proof.Gen.MlpRefIdeal.Run
public import proofs.«01_k».proof.Proof.Gen.InprojRefIdeal.Run
public import proofs.«01_k».proof.Proof.Gen.MergeRefIdeal.Run
public import proofs.«01_k».proof.Proof.Gen.OprojRefIdeal.Run
public import proofs.«01_k».proof.Proof.Gen.BiasRefIdeal.Run
import Idealize.ShloMosaic.Lib.Quiescent

public section

namespace Cert.Proof.References

open Idealize.ShloMosaic Idealize.SL.Sem

/-- The reference of the mixer ends with its arguments as they were and every semaphore at zero. -/
theorem mlp : Cert.quiescent_MlpRefIdeal := fun m ρ _ =>
  (θ_run Cert.MlpRefIdeal.defs _ _).mono (fun r h => ⟨fun c => (h c).2, sem_eq_zero_of_no_sems rfl r.2⟩)
    (Cert.MlpRefIdeal.Value.run m ρ)

/-- The reference of the input projection ends with its arguments as they were and every semaphore at zero. -/
theorem inproj : Cert.quiescent_InprojRefIdeal := fun m ρ _ =>
  (θ_run Cert.InprojRefIdeal.defs _ _).mono (fun r h => ⟨fun c => (h c).2, sem_eq_zero_of_no_sems rfl r.2⟩)
    (Cert.InprojRefIdeal.Value.run m ρ)

/-- The reference of the merge ends with its arguments as they were and every semaphore at zero. -/
theorem merge : Cert.quiescent_MergeRefIdeal := fun m ρ _ =>
  (θ_run Cert.MergeRefIdeal.defs _ _).mono (fun r h => ⟨fun c => (h c).2, sem_eq_zero_of_no_sems rfl r.2⟩)
    (Cert.MergeRefIdeal.Value.run m ρ)

/-- The reference of the output projection ends with its arguments as they were and every semaphore at zero. -/
theorem oproj : Cert.quiescent_OprojRefIdeal := fun m ρ _ =>
  (θ_run Cert.OprojRefIdeal.defs _ _).mono (fun r h => ⟨fun c => (h c).2, sem_eq_zero_of_no_sems rfl r.2⟩)
    (Cert.OprojRefIdeal.Value.run m ρ)

/-- The reference of the bias tiles ends with its argument as it was and every semaphore at zero. -/
theorem bias : Cert.quiescent_BiasRefIdeal := fun m ρ _ =>
  (θ_run Cert.BiasRefIdeal.defs _ _).mono (fun r h => ⟨fun c => (h c).2, sem_eq_zero_of_no_sems rfl r.2⟩)
    (Cert.BiasRefIdeal.Value.run m ρ)

end Cert.Proof.References

end
-- ==== Proof.Layer.lean ====
/- Facts about the layer number that several calls of this certificate take as an argument: a word between 0 and 3, which names one
   of the four layers of a stack of weights. Shared by every call that reads such a stack. -/
module

public import Idealize.ShloMosaic.Lib.ValueIdx
public import Idealize.ShloMosaic.Lib.Pointwise.Index
public import Idealize.ShloMosaic.Lib.DynamicIndex
public import Idealize.ShloMosaic.PureOps.Ideal.Laws
public import Idealize.ShloMosaic.Lib.Pipeline.Value

@[expose] public section

noncomputable section

namespace Cert.Layer

open Idealize.ShloMosaic

/-- A word that the precondition's two comparisons accept is a number below 4, the same read signed or unsigned. -/
theorem word_bounds (w : BitVec 32) (h : IntOp.andi (IntOp.cmpi .sge w 0#32) (IntOp.cmpi .slt w 4#32) = 1#1) :
    w.toNat < 4 ∧ w.toInt = (w.toNat : Int) := by
  have andi_one (a b : BitVec 1) : IntOp.andi a b = 1#1 ↔ a = 1#1 ∧ b = 1#1 := by revert a b; decide
  have ofBool_one (p : Bool) : (BitVec.ofBool p = 1#1) ↔ p = true := by cases p <;> decide
  obtain ⟨h1, h2⟩ := (andi_one _ _).mp h
  simp only [ofBool_one, IntOp.cmpi, BitVec.sle, BitVec.slt, decide_eq_true_eq, BitVec.toInt, BitVec.toNat_ofNat] at h1 h2
  have := w.isLt
  constructor
  · split at h2 <;> simp at h1 h2 <;> omega
  · unfold BitVec.toInt
    split at h2 <;> simp at h1 h2 <;> first | omega | (rw [if_pos (by omega)])

/-- The dimension numbers of a gather that takes one layer, all of the other two axes, from a stack of four. -/
abbrev layerDims (M N : Nat)
    (wf : GatherDims.WF ⟨3, ![4, M, N]⟩ ⟨2, ![1, 1]⟩ ⟨3, ![1, M, N]⟩ [1, 2] [0] [] [0] [] 1 ![1, M, N]) :
    GatherDims ⟨3, ![4, M, N]⟩ ⟨2, ![1, 1]⟩ ⟨3, ![1, M, N]⟩ where
  offsetDims := [1, 2]
  collapsedSliceDims := [0]
  operandBatchingDims := []
  startIndicesBatchingDims := []
  startIndexMap := [0]
  indexVectorDim := 1
  sliceSizes := ![1, M, N]
  wf := wf

/-- That gather at a layer number below 4 reads the layer: entry (0, a, b) of what it takes is entry (layer, a, b) of the stack. -/
theorem gather_layer {α : Type} {M N : Nat}
    (wf : GatherDims.WF ⟨3, ![4, M, N]⟩ ⟨2, ![1, 1]⟩ ⟨3, ![1, M, N]⟩ [1, 2] [0] [] [0] [] 1 ![1, M, N])
    (x : (⟨3, ![4, M, N]⟩ : Shape).Idx → α) (idx : IVec ⟨2, ![1, 1]⟩ 32) (l : Fin 4)
    (h : (idx (ix2 0 0)).toInt = (l.val : Int)) (z : Fin 1) (a : Fin M) (b : Fin N) :
    Host.gather (layerDims M N wf) x idx (ix3 z a b) = x (ix3 l a b) := by
  unfold Host.gather
  congr 1
  funext d
  refine Fin.ext ?_
  show (layerDims M N wf).start (ix3 z a b) idx d + (layerDims M N wf).batchCoord (ix3 z a b) d
      + (layerDims M N wf).offCoord (ix3 z a b) d = _
  rw [GatherDims.batchCoord_eq_zero _ _ _ List.not_mem_nil]
  have h012 : d = 0 ∨ d = 1 ∨ d = 2 := by
    match d with
    | ⟨0, _⟩ => exact .inl rfl
    | ⟨1, _⟩ => exact .inr (.inl rfl)
    | ⟨2, _⟩ => exact .inr (.inr rfl)
  have h10 : ¬(1 : Fin 3) = 0 := by decide
  have h20 : ¬(2 : Fin 3) = 0 := by decide
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (layerDims M N wf).startIndexMap from List.mem_singleton.mpr rfl)]
    have hz : z = 0 := Subsingleton.elim _ _
    have hsi : (layerDims M N wf).siIdx (ix3 z a b) ⟨List.idxOf (0 : Fin 3) (layerDims M N wf).startIndexMap,
        List.idxOf_lt_length_iff.2 (List.mem_singleton.mpr rfl)⟩ = ix2 0 0 := by
      subst hz
      funext c; refine Fin.ext ?_
      match c with
      | ⟨0, _⟩ => rfl
      | ⟨1, _⟩ => rfl
    have hl := l.isLt
    show min (idx ((layerDims M N wf).siIdx (ix3 z a b) ⟨List.idxOf (0 : Fin 3) (layerDims M N wf).startIndexMap,
        List.idxOf_lt_length_iff.2 (List.mem_singleton.mpr rfl)⟩)).toInt.toNat (4 - 1) + 0 + 0 = l.val
    rw [hsi, h]
    omega
  · unfold GatherDims.start
    rw [dif_neg (show ¬(1 : Fin 3) ∈ (layerDims M N wf).startIndexMap from fun h => h10 (List.mem_singleton.mp h))]
    unfold GatherDims.offCoord
    rw [dif_pos (show (1 : Fin 3) ∈ (layerDims M N wf).sKept from (GatherDims.mem_sKept _ _).mpr
      ⟨fun h => h10 (List.mem_singleton.mp h), List.not_mem_nil⟩)]
    show 0 + 0 + a.val = a.val
    omega
  · unfold GatherDims.start
    rw [dif_neg (show ¬(2 : Fin 3) ∈ (layerDims M N wf).startIndexMap from fun h => h20 (List.mem_singleton.mp h))]
    unfold GatherDims.offCoord
    rw [dif_pos (show (2 : Fin 3) ∈ (layerDims M N wf).sKept from (GatherDims.mem_sKept _ _).mpr
      ⟨fun h => h20 (List.mem_singleton.mp h), List.not_mem_nil⟩)]
    show 0 + 0 + b.val = b.val
    omega

/-- A negative number counts from the end in the reference: a number that isn't negative stays itself. -/
theorem wrap_of_nonneg (w v : BitVec 32) (h : w.toInt = (w.toNat : Int)) :
    Scalar.select (IntOp.cmpi .slt w 0#32) v w = w := by
  have : BitVec.slt w 0#32 = false := by
    simp only [BitVec.slt, h, decide_eq_false_iff_not]
    simp
  simp [Scalar.select, IntOp.cmpi, this]

/-- An array of one element has one index. -/
theorem one_eq (a b : (⟨1, ![1]⟩ : Shape).Idx) : a = b := by
  funext d
  match d with
  | ⟨0, _⟩ => exact Subsingleton.elim (α := Fin 1) _ _

/-- Two indices with equal coordinates are equal: two axes. -/
theorem ext2 {a b : Nat} {i j : (⟨2, ![a, b]⟩ : Shape).Idx} (h0 : (i 0).val = (j 0).val) (h1 : (i 1).val = (j 1).val) : i = j := by
  funext d
  match d with
  | ⟨0, _⟩ => exact Fin.ext h0
  | ⟨1, _⟩ => exact Fin.ext h1

/-- Two indices with equal coordinates are equal: three axes. -/
theorem ext3 {a b c : Nat} {i j : (⟨3, ![a, b, c]⟩ : Shape).Idx} (h0 : (i 0).val = (j 0).val) (h1 : (i 1).val = (j 1).val)
    (h2 : (i 2).val = (j 2).val) : i = j := by
  funext d
  match d with
  | ⟨0, _⟩ => exact Fin.ext h0
  | ⟨1, _⟩ => exact Fin.ext h1
  | ⟨2, _⟩ => exact Fin.ext h2

end Cert.Layer

end
-- ==== Proof.MlpTables.lean ====
/- The feed-forward call's prefetched layer number: which block of the stacked weights a point of the grid reads, that it lies inside the
   stack when the number is below 4, and with that the frames of the program and of its ideal. -/
module

public import proofs.«01_k».proof.Defs
public import proofs.«01_k».proof.Proof.Gen.Mlp.Frame
public import proofs.«01_k».proof.Proof.Gen.MlpIdeal.Frame
public import proofs.«01_k».proof.Proof.Gen.Pre_mlp_layer
public import proofs.«01_k».proof.Proof.Layer
public import Idealize.ShloMosaic.Lib.Pipeline.Value

@[expose] public section

noncomputable section

namespace Cert.Proof.Tables.Mlp

open Cert.Mlp Cert.Mlp.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 16 := (i 1).isLt
  unfold cc0_transform_2
  simp only []
  rw [word]
  funext a
  match a with
  | ⟨0, _⟩ => rfl
  | ⟨1, _⟩ => rfl
  | ⟨2, _⟩ => show (BitVec.ofNat 32 (i 1).val).toNat = _; simp; omega

/-- The block of the weights that a point reads through window 3. -/
theorem transform_3 (i : grid0.Coords) : cc0_transform_3 inb_S1_S1_0 numel1_S1 (tbl m) i = ![(layer m).toNat, (i 1).val, 0] := by
  have hi : (i 1).val < 16 := (i 1).isLt
  unfold cc0_transform_3
  simp only []
  rw [word]
  funext a
  match a with
  | ⟨0, _⟩ => rfl
  | ⟨1, _⟩ => show (BitVec.ofNat 32 (i 1).val).toNat = _; simp; omega
  | ⟨2, _⟩ => rfl

/-- With the layer number below 4 every block of the weights lies inside the stack. -/
theorem ok (h : (layer m).toNat < 4) : Ok m := by
  refine ⟨fun i => ?_, fun i => ?_⟩
  · have hi : (i 1).val < 16 := (i 1).isLt
    have hb : ∀ a, (cc0_transform_2 inb_S1_S1_0 numel1_S1 (tbl m) i a + 1) * S1x2048x512.size a ≤ S4x2048x8192.size a := by
      rw [transform_2]
      intro a
      match a with
      | ⟨0, _⟩ => show ((layer m).toNat + 1) * 1 ≤ 4; omega
      | ⟨1, _⟩ => show (0 + 1) * 2048 ≤ 2048; omega
      | ⟨2, _⟩ => show ((i 1).val + 1) * 512 ≤ 8192; omega
    exact ⟨hb, .inr (Affine.block_words_dvd (of_decide_eq_true rfl) (by decide))⟩
  · have hi : (i 1).val < 16 := (i 1).isLt
    have hb : ∀ a, (cc0_transform_3 inb_S1_S1_0 numel1_S1 (tbl m) i a + 1) * S1x512x2048.size a ≤ S4x8192x2048.size a := by
      rw [transform_3]
      intro a
      match a with
      | ⟨0, _⟩ => show ((layer m).toNat + 1) * 1 ≤ 4; omega
      | ⟨1, _⟩ => show ((i 1).val + 1) * 512 ≤ 8192; omega
      | ⟨2, _⟩ => show (0 + 1) * 2048 ≤ 2048; omega
    exact ⟨hb, .inr (Affine.block_words_dvd (of_decide_eq_true rfl) (by decide))⟩

end

/-- The layer number's bounds, from the precondition. -/
theorem bounds (m : (ℓ : Loc nD τ sig) → Buf (Elt Bits) ℓ) (h : Cert.Pre_Mlp m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_Mlp := fun m ρ h => frame m ρ (ok m (bounds m h).1)

end Cert.Proof.Tables.Mlp

namespace Cert.Proof.Tables.MlpIdeal

open Cert.MlpIdeal Cert.MlpIdeal.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 16 := (i 1).isLt
  unfold cc0_transform_2
  simp only []
  rw [word]
  funext a
  match a with
  | ⟨0, _⟩ => rfl
  | ⟨1, _⟩ => rfl
  | ⟨2, _⟩ => show (BitVec.ofNat 32 (i 1).val).toNat = _; simp; omega

/-- The block of the weights that a point reads through window 3. -/
theorem transform_3 (i : grid0.Coords) : cc0_transform_3 inb_S1_S1_0 numel1_S1 (tbl m) i = ![(layer m).toNat, (i 1).val, 0] := by
  have hi : (i 1).val < 16 := (i 1).isLt
  unfold cc0_transform_3
  simp only []
  rw [word]
  funext a
  match a with
  | ⟨0, _⟩ => rfl
  | ⟨1, _⟩ => show (BitVec.ofNat 32 (i 1).val).toNat = _; simp; omega
  | ⟨2, _⟩ => rfl

/-- With the layer number below 4 every block of the weights lies inside the stack. -/
theorem ok (h : (layer m).toNat < 4) : Ok m := by
  refine ⟨fun i => ?_, fun i => ?_⟩
  · have hi : (i 1).val < 16 := (i 1).isLt
    have hb : ∀ a, (cc0_transform_2 inb_S1_S1_0 numel1_S1 (tbl m) i a + 1) * S1x2048x512.size a ≤ S4x2048x8192.size a := by
      rw [transform_2]
      intro a
      match a with
      | ⟨0, _⟩ => show ((layer m).toNat + 1) * 1 ≤ 4; omega
      | ⟨1, _⟩ => show (0 + 1) * 2048 ≤ 2048; omega
      | ⟨2, _⟩ => show ((i 1).val + 1) * 512 ≤ 8192; omega
    exact ⟨hb, .inr (Affine.block_words_dvd (of_decide_eq_true rfl) (by decide))⟩
  · have hi : (i 1).val < 16 := (i 1).isLt
    have hb : ∀ a, (cc0_transform_3 inb_S1_S1_0 numel1_S1 (tbl m) i a + 1) * S1x512x2048.size a ≤ S4x8192x2048.size a := by
      rw [transform_3]
      intro a
      match a with
      | ⟨0, _⟩ => show ((layer m).toNat + 1) * 1 ≤ 4; omega
      | ⟨1, _⟩ => show ((i 1).val + 1) * 512 ≤ 8192; omega
      | ⟨2, _⟩ => show (0 + 1) * 2048 ≤ 2048; omega
    exact ⟨hb, .inr (Affine.block_words_dvd (of_decide_eq_true rfl) (by decide))⟩

end

/-- The layer number's bounds, from the precondition. -/
theorem bounds (m : (ℓ : Loc nD τ sig) → Buf (Elt Ideal) ℓ) (h : Cert.Pre_MlpIdeal m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_MlpIdeal := fun m ρ h => frame m ρ (ok m (bounds m h).1)

end Cert.Proof.Tables.MlpIdeal

end
-- ==== Proof.Norm.lean ====
/- The root-mean-square normalization of a row of 2048 numbers, as the kernels' bodies and the references compute it. -/
module

public import proofs.«01_k».proof.Proof.Gen.InprojIdeal.Skeleton
public import proofs.«01_k».proof.Proof.Gen.InprojRefIdeal.Read
public import proofs.«01_k».proof.Proof.Layer
import Idealize.ShloMosaic.Lib.Pointwise

@[expose] public section

noncomputable section

namespace Cert.Norm

open Idealize.ShloMosaic Idealize.ShloMosaic.TcCoe

/-- The entry `k` of the row `v`, divided by the root of the row's mean square (plus a small constant), times the gain. -/
def entry (v g : Fin 2048 → EReal) (k : Fin 2048) : EReal :=
  v k * Ideal.rsqrt (Ideal.div (∑ j : Fin 2048, v j * v j) (Ideal.ofBits .f32 0x45000000#32) + Ideal.ofBits .f32 0x358637BD#32) * g k

/-- The row `r` of an array of 2048 columns. -/
abbrev row {R : Nat} (x : (⟨2, ![R, 2048]⟩ : Shape).Idx → EReal) (r : Fin R) (k : Fin 2048) : EReal := x (ix2 r k)

/-- The array whose rows are the normalized rows of `x`. -/
def rows {R : Nat} (x : (⟨2, ![R, 2048]⟩ : Shape).Idx → EReal) (g : (⟨2, ![1, 2048]⟩ : Shape).Idx → EReal)
    (j : (⟨2, ![R, 2048]⟩ : Shape).Idx) : EReal := entry (row x (j 0)) (row g 0) (j 1)

/-- The normalization of equal rows, at equal columns, is equal. -/
theorem rows_congr {R R' : Nat} {x : (⟨2, ![R, 2048]⟩ : Shape).Idx → EReal} {x' : (⟨2, ![R', 2048]⟩ : Shape).Idx → EReal}
    {g g' : (⟨2, ![1, 2048]⟩ : Shape).Idx → EReal} {j : (⟨2, ![R, 2048]⟩ : Shape).Idx} {j' : (⟨2, ![R', 2048]⟩ : Shape).Idx}
    (h : ∀ k, row x (j 0) k = row x' (j' 0) k) (hg : ∀ k, row g 0 k = row g' 0 k) (hj : (j 1).val = (j' 1).val) :
    rows x g j = rows x' g' j' := by
  unfold rows
  rw [funext h, funext hg, show j 1 = j' 1 from Fin.ext hj]

/-- What a body computes of 128 rows. -/
theorem pay (x : Vec Ideal InprojIdeal.S128x2048 .f32) (g : Vec Ideal InprojIdeal.S1x2048 .f32) (j : InprojIdeal.S128x2048.Idx) :
    InprojIdeal.Gen.k0_pay1 x g j = rows (R := 128) x g j := by
  unfold InprojIdeal.Gen.k0_pay1 rows entry row
  pointwise

/-- What a reference computes of all rows. -/
theorem reference (x : InprojRefIdeal.S32768x2048.Idx → EReal) (g : InprojRefIdeal.S1x2048.Idx → EReal) (j : InprojRefIdeal.S32768x2048.Idx) :
    InprojRefIdeal.Read.val_main_v11 (F := Ideal) x g j = rows (R := 32768) x g j := by
  open InprojRefIdeal.Read in
  rw [val_main_v11_apply, val_main_v9_apply, val_main_v8_apply, val_main_v7_apply, val_main_v6_apply, val_main_v4_apply,
    val_main_v2_apply, val_main_v1_apply, val_main_v3_apply, val_main_v5_apply, val_main_v10_apply]
  rw [val_main_cst_apply, val_main_cst_0_apply, val_main_cst_1_apply, show FloatOps.ofBits (F := Ideal) .f32 0x00000000#32 = 0 from Ideal.ofBits_zero _, zero_add]
  unfold rows entry row
  have e : j = ix2 (j 0) (j 1) := Layer.ext2 rfl rfl
  refine congrArg₂ (· * ·) (congrArg₂ (· * ·) (congrArg x e) (congrArg Ideal.rsqrt (congrArg (· + _) (congrArg (Ideal.div · _) ?_)))) (congrArg g ?_)
  · exact Finset.sum_congr rfl fun k _ => congrArg₂ (· * ·) (congrArg x (Layer.ext2 rfl rfl)) (congrArg x (Layer.ext2 rfl rfl))
  · exact Layer.ext2 rfl rfl

end Cert.Norm

end
-- ==== Proof.Mlp.lean ====
/- The two-layer perceptron: what the kernel leaves and what its reference leaves are the same array, the residual plus the squared
   rectified products of the normalized rows with the layer's first weights, times its second weights. -/
module

public import proofs.«01_k».proof.Defs
public import proofs.«01_k».proof.Proof.Gen.MlpIdeal.Frame
public import proofs.«01_k».proof.Proof.Gen.MlpRefIdeal.Run
public import proofs.«01_k».proof.Proof.Gen.MlpRefIdeal.Read
public import proofs.«01_k».proof.Proof.Gen.Pre_mlp_layer
public import proofs.«01_k».proof.Proof.MlpTables
public import proofs.«01_k».proof.Proof.Norm
public import Idealize.ShloMosaic.Lib.Pipeline.Value
public import Idealize.ShloMosaic.Lib.Pipeline.ValueKit
public import Idealize.ShloMosaic.Lib.Pipeline.CanonAppend
import Idealize.ShloMosaic.Lib.Pointwise

@[expose] public section

noncomputable section

namespace Cert.Proof.Mlp

open Cert.MlpIdeal Cert.MlpIdeal.Gen Cert.Proof.Tables.MlpIdeal
open Idealize.ShloMosaic Idealize.ShloMosaic.TcCoe Idealize.SL.Sem

/-- The square of the positive part. -/
def relu2 (v : EReal) : EReal := max v (Ideal.ofBits .f32 0x00000000#32) * max v (Ideal.ofBits .f32 0x00000000#32)

/-- The share of the hidden unit `f` in the entry `i` of the result. -/
def unit (l : Fin 4) (x : S32768x2048.Idx → EReal) (g : S1x2048.Idx → EReal) (w1 : S4x2048x8192.Idx → EReal) (w2 : S4x8192x2048.Idx → EReal)
    (i : S32768x2048.Idx) (f : Fin 8192) : EReal :=
  relu2 (∑ k : Fin 2048, Norm.rows (R := 32768) x g (ix2 (i 0) k) * w1 (ix3 l k f)) * w2 (ix3 l f (i 1))

/-- The residual plus the shares of all hidden units. -/
def out (l : Fin 4) (x : S32768x2048.Idx → EReal) (g : S1x2048.Idx → EReal) (w1 : S4x2048x8192.Idx → EReal) (w2 : S4x8192x2048.Idx → EReal)
    (i : S32768x2048.Idx) : EReal :=
  x i + ∑ f : Fin 8192, unit l x g w1 w2 i f

/-- Sums of 512 terms each, one after the other, are one sum. -/
theorem sum_blocks (F : ℕ → EReal) (n : ℕ) : ∑ q ∈ Finset.range n, ∑ f ∈ Finset.range 512, F (q * 512 + f) = ∑ f ∈ Finset.range (n * 512), F f := by
  induction n with
  | zero => rfl
  | succ n ih => rw [Finset.sum_range_succ, ih, Nat.succ_mul, Finset.sum_range_add]

/-! ## What one point of the grid leaves -/

section Body

variable (c : Dev nD) (i : grid0.Coords) (arg3 : Memref sig .tc .vmem S1024x2048 .f32) (harg3 : arg3.IsWhole) (arg4 : Memref sig .tc .vmem S1x2048 .f32) (harg4 : arg4.IsWhole)
  (arg5 : Memref sig .tc .vmem S1x2048x512 .bf16) (harg5 : arg5.IsWhole) (arg6 : Memref sig .tc .vmem S1x512x2048 .bf16) (harg6 : arg6.IsWhole)
  (arg7 : Memref sig .tc .vmem S1024x2048 .f32) (harg7 : arg7.IsWhole) (arg8 : Memref sig .tc .vmem S1024x2048 .bf16) (harg8 : arg8.IsWhole)

/-- The rows that a trip of the body's loop stores are the block's normalized rows. -/
theorem trip (h : k0_cond1 i = 1#1) (x0 : Vec Ideal S1024x2048 .f32) (x1 : Vec Ideal S1x2048 .f32) (k : Fin k0_t1_loop.trips) :
    ∀ p ∈ tripL_k0_t1 (F := Ideal) Variants.none c none i tbM0_0 htbM0_0 arg3 harg3 arg4 harg4 arg5 harg5 arg6 harg6 arg7 harg7 arg8 harg8 h (harg3.unread x0) (harg4.unread x1) k,
      ∀ y : p.1.shape.Idx, p.2 y = Norm.rows (R := 1024) x0 x1 (p.1.emb y) := by
  unfold tripL_k0_t1 trip_k0_t1
  intro p hp
  obtain rfl := List.mem_singleton.mp hp
  intro y
  refine (Norm.pay _ _ y).trans (Norm.rows_congr (fun j => ?_) (fun j => ?_) ?_)
  · rw [View.readAt_eq_ld, harg3.read_unread]
    exact congrArg x0 (Layer.ext2 rfl (by show k0_off1 k 1 + 1 * j.val = j.val; show 0 + 1 * j.val = j.val; omega))
  · rw [View.readAt_eq_ld, harg4.read_unread]
    exact congrArg x1 (Layer.ext2 rfl (by show 0 + 1 * j.val = j.val; omega))
  · show (y 1).val = 0 + 1 * (y 1).val; omega

/-- So do all its trips up to the `n`-th. -/
theorem pieces (h : k0_cond1 i = 1#1) (x0 : Vec Ideal S1024x2048 .f32) (x1 : Vec Ideal S1x2048 .f32) :
    ∀ n ≤ k0_t1_loop.trips, ∀ p ∈ pb_k0_t1 (F := Ideal) Variants.none c none i tbM0_0 htbM0_0 arg3 harg3 arg4 harg4 arg5 harg5 arg6 harg6 arg7 harg7 arg8 harg8 h (harg3.unread x0) (harg4.unread x1) n,
      ∀ y : p.1.shape.Idx, p.2 y = Norm.rows (R := 1024) x0 x1 (p.1.emb y)
  | 0, _, p, hp => absurd hp (by rw [pb_k0_t1.eq_1]; exact List.not_mem_nil)
  | n + 1, hn, p, hp => by
    rw [pb_k0_t1_succ (F := Ideal) Variants.none c none i tbM0_0 htbM0_0 arg3 harg3 arg4 harg4 arg5 harg5 arg6 harg6 arg7 harg7 arg8 harg8 h (harg3.unread x0) (harg4.unread x1) ⟨n, hn⟩] at hp
    rcases List.mem_append.mp hp with hp | hp
    · exact trip c i arg3 harg3 arg4 harg4 arg5 harg5 arg6 harg6 arg7 harg7 arg8 harg8 h x0 x1 ⟨n, hn⟩ p hp
    · exact pieces h x0 x1 n (Nat.le_of_lt hn) p hp

/-- The first point of a row of the grid leaves the block's normalized rows in the scratch buffer. -/
theorem scratch_first (h : cond0_0 i) (x0 : Vec Ideal S1024x2048 .f32) (x1 : Vec Ideal S1x2048 .f32) (x2 : Vec Ideal S1x2048x512 .bf16) (x3 : Vec Ideal S1x512x2048 .bf16) (l : TbBuf0 (F := Ideal) c tbM0_0) :
    sout0_A_0 c i arg3 harg3 arg4 harg4 arg5 harg5 arg6 harg6 arg7 harg7 arg8 harg8 h x0 x1 x2 x3 l = Norm.rows (R := 1024) x0 x1 := by
  funext y
  have hc := scover0_A_0 c i arg3 harg3 arg4 harg4 arg5 harg5 arg6 harg6 arg7 harg7 arg8 harg8 h x0 x1 x2 x3 l y
  have hp := pieces c i arg3 harg3 arg4 harg4 arg5 harg5 arg6 harg6 arg7 harg7 arg8 harg8 h x0 x1 _ le_rfl
  unfold sout0_A_0
  rw [View.read_writes_junk_eq_canon]
  rw [← List.append_nil (kernelRun0_A c i arg3 harg3 arg4 harg4 arg5 harg5 arg6 harg6 arg7 harg7 arg8 harg8 h x0 x1 x2 x3 l).2.1]
  exact View.canon_append_of_pieces _ [] _ hp y hc

/-- The shares of the 512 hidden units of a point. -/
def share (h : S1024x2048.Idx → EReal) (w1 : S1x2048x512.Idx → EReal) (w2 : S1x512x2048.Idx → EReal) (j : S1024x2048.Idx) : EReal :=
  ∑ f : Fin 512, relu2 (∑ k : Fin 2048, h (ix2 (j 0) k) * w1 (ix3 (0 : Fin 1) k f)) * w2 (ix3 (0 : Fin 1) f (j 1))

/-- The sum of two blocks, entry by entry. -/
def plus (a b : S1024x2048.Idx → EReal) (j : S1024x2048.Idx) : EReal := a j + b j

/-- What the body stores. -/
theorem pay (h : Vec Ideal S1024x2048 .bf16) (w1 : Vec Ideal S1x2048x512 .bf16) (a : Vec Ideal S1024x2048 .f32) (w2 : Vec Ideal S1x512x2048 .bf16) :
    k0_pay2 h w1 a w2 = plus a (share h w1 w2) := by
  funext j
  unfold k0_pay2 plus share relu2
  pointwise

/-- What the first point of a row of the grid leaves in its block of the result. -/
theorem stored_first (h : cond0_0 i) (x0 : Vec Ideal S1024x2048 .f32) (x1 : Vec Ideal S1x2048 .f32) (x2 : Vec Ideal S1x2048x512 .bf16) (x3 : Vec Ideal S1x512x2048 .bf16) (l : TbBuf0 (F := Ideal) c tbM0_0) :
    out0_A_4 c i arg3 harg3 arg4 harg4 arg5 harg5 arg6 harg6 arg7 harg7 arg8 harg8 h x0 x1 x2 x3 l = plus x0 (share (Norm.rows (R := 1024) x0 x1) x2 x3) := by
  rw [← pay, ← scratch_first c i arg3 harg3 arg4 harg4 arg5 harg5 arg6 harg6 arg7 harg7 arg8 harg8 h x0 x1 x2 x3 l]
  unfold out0_A_4 sout0_A_0
  rw [View.read_writes_junk_eq_canon, View.read_writes_junk_eq_canon]
  unfold kernelRun0_A
  dsimp only
  rw [View.canon_cons_unit_zero (by funext a; match a with | ⟨0, _⟩ => rfl | ⟨1, _⟩ => rfl)]
  have e : kernelRun0_A.sl.v11 (F := Ideal) c arg3 harg3 arg7 x0 = x0 := by
    unfold kernelRun0_A.sl.v11 kernelRun0_A.sl.H4_1
    rw [View.readCov_eq_canon', View.canon_unit_zero (by funext a; match a with | ⟨0, _⟩ => rfl | ⟨1, _⟩ => rfl), View.readAt_eq_ld, harg3.read_unread]
    exact funext fun y => congrArg x0 (Layer.ext2 (by show 0 + 1 * (0 + 1 * (y 0).val) = _; omega) (by show 0 + 1 * (0 + 1 * (y 1).val) = _; omega))
  rw [e, View.readCov_eq_canon', View.readAt_eq_ld, View.readAt_eq_ld, harg5.read_unread, harg6.read_unread]
  have e2 : (fun y => x2 ((Rect.unit (s := S1x2048x512) ![0, 0, 0] ![1, 2048, 512] inb_S1x2048x512_S1x2048x512_0_0_0).idx y)) = x2 :=
    funext fun y => congrArg x2 (Layer.ext3 (by show 0 + 1 * (y 0).val = _; omega) (by show 0 + 1 * (y 1).val = _; omega) (by show 0 + 1 * (y 2).val = _; omega))
  have e3 : (fun y => x3 ((Rect.unit (s := S1x512x2048) ![0, 0, 0] ![1, 512, 2048] inb_S1x512x2048_S1x512x2048_0_0_0).idx y)) = x3 :=
    funext fun y => congrArg x3 (Layer.ext3 (by show 0 + 1 * (y 0).val = _; omega) (by show 0 + 1 * (y 1).val = _; omega) (by show 0 + 1 * (y 2).val = _; omega))
  refine (congrArg₂ (k0_pay2 _ · x0 ·) e2 e3).trans (congrArg (k0_pay2 · x2 x0 x3) (funext fun y => congrArg _ ?_))
  exact Layer.ext2 (by show 0 + 1 * (y 0).val = _; omega) (by show 0 + 1 * (y 1).val = _; omega)

/-- What a later point leaves in its block of the result, the block holding `a` and the scratch buffer `s`. -/
theorem stored_later (h : ¬cond0_0 i) (x0 : Vec Ideal S1024x2048 .f32) (x1 : Vec Ideal S1x2048 .f32) (x2 : Vec Ideal S1x2048x512 .bf16) (x3 : Vec Ideal S1x512x2048 .bf16) (l : TbBuf0 (F := Ideal) c tbM0_0)
    (a : Vec Ideal S1024x2048 .f32) (s : Vec Ideal S1024x2048 .bf16) :
    out0_B_4 c i arg3 harg3 arg4 harg4 arg5 harg5 arg6 harg6 arg7 harg7 arg8 harg8 h x0 x1 x2 x3 l a s = plus a (share s x2 x3) := by
  rw [← pay]
  frame_out

end Body

/-- The index in the whole array of an index of the block of rows `b`. -/
def place (b : Fin 32) (j : S1024x2048.Idx) : S32768x2048.Idx :=
  ix2 ⟨b.val * 1024 + (j 0).val, by have h : (j 0).val < 1024 := (j 0).isLt; omega⟩ (j 1)

/-- A point's row of the grid. -/
abbrev rowOf (t : Fin grid0.N) : Fin 32 := ⟨t.val / 16, by have : t.val < 512 := Nat.lt_of_lt_of_eq t.isLt N_0; omega⟩

section Kernel

variable (m : (ℓ : Loc nD τ sig) → Buf (Elt Ideal) ℓ) (ρ : Dev nD → PrngReg) (hO : Ok m) (hl : (layer m).toNat < 4)

/-- The weights that the launch hands to the grid are the arguments'. -/
theorem V_main_v0 (c : Dev nD) : V m c main_v0 = m ((c : Thread nD τ).loc main_arg3) := by
  show StableHlo.after hostOps0 (fun b => m (c, b)) main_v0 = _
  unfold hostOps0
  after_results <;> rfl

theorem V_main_v1 (c : Dev nD) : V m c main_v1 = m ((c : Thread nD τ).loc main_arg4) := by
  show StableHlo.after hostOps0 (fun b => m (c, b)) main_v1 = _
  unfold hostOps0
  after_results <;> rfl

/-- Every block of the result is written back by some point. -/
theorem onto : ∀ b0 : Fin 32, ∃ t : Fin grid0.N, t.val % 16 = 15 ∧ cc0_transform_4 (grid0.coords t) = ![b0.val, 0] := by
  decide +kernel

/-- The blocks written back cover the result. -/
theorem covers : ((cfgM m hO).win 4).Covers :=
  ⟨fun a => by match a with
    | ⟨0, _⟩ => exact (by decide : 0 < 1024)
    | ⟨1, _⟩ => exact (by decide : 0 < 2048), fun β => by
    obtain ⟨t, h15, ht⟩ := onto ⟨(β (0 : Fin 2)).val, lt_of_lt_of_eq (β (0 : Fin 2)).isLt (show (32768 + 1024 - 1) / 1024 = 32 by decide)⟩
    have h1 : (β (1 : Fin 2)).val < 1 := lt_of_lt_of_eq (β (1 : Fin 2)).isLt (show (2048 + 2048 - 1) / 2048 = 1 by decide)
    refine ⟨t, (flush0_4 _ t).mpr h15, fun a => ⟨?_, .inl rfl⟩⟩
    show cc0_transform_4 (grid0.coords t) a = _
    rw [ht]
    match a with
    | ⟨0, _⟩ => rfl
    | ⟨1, _⟩ => exact (Nat.lt_one_iff.mp h1).symm⟩

/-- The grid's coordinates as numbers of blocks. -/
theorem coord0 (t : Fin grid0.N) : (BitVec.ofNat 32 (grid0.coords t 0).val).toNat = t.val / 16 := by
  have ht : t.val < 512 := Nat.lt_of_lt_of_eq t.isLt N_0
  have e0 : (grid0.coords t 0).val = t.val / 16 % 32 := Pipeline.Grid.coords_val t 0 (by decide) rfl
  rw [e0]; simp; omega

theorem coord1 (t : Fin grid0.N) : (grid0.coords t 1).val = t.val % 16 := by
  have e1 : (grid0.coords t 1).val = t.val / 1 % 16 := Pipeline.Grid.coords_val t 1 (by decide) rfl
  omega

/-- The input's block at a point. -/
theorem blk_x (c : Dev nD) (t : Fin grid0.N) (j : S1024x2048.Idx) (i : S32768x2048.Idx)
    (h0 : (i 0).val = t.val / 16 * 1024 + (j 0).val) (h1 : (i 1).val = (j 1).val) :
    iblk m hO c 0 t j = m ((c : Thread nD τ).loc main_arg1) i := by
  refine (congrArg (V m c main_arg1) (?_ : _ = i)).trans (congrFun (V_main_arg1 m c) i)
  refine Layer.ext2 ?_ ?_
  · rw [h0, ← coord0]; exact congrArg (_ + ·) (Nat.one_mul _)
  · rw [h1]; show 0 * 2048 + 1 * (j 1).val = _; omega

/-- The gain's block at a point: all of it. -/
theorem blk_g (c : Dev nD) (t : Fin grid0.N) (j : S1x2048.Idx) : iblk m hO c 1 t j = m ((c : Thread nD τ).loc main_arg2) j := by
  refine (congrArg (V m c main_arg2) (?_ : _ = j)).trans (congrFun (V_main_arg2 m c) j)
  refine Layer.ext2 ?_ ?_
  · show 0 * 1 + 1 * (j 0).val = _; omega
  · show 0 * 2048 + 1 * (j 1).val = _; omega

/-- The first weights' block at a point. -/
theorem blk_w1 (c : Dev nD) (t : Fin grid0.N) (j : S1x2048x512.Idx) (i : S4x2048x8192.Idx)
    (h0 : (i 0).val = (layer m).toNat) (h1 : (i 1).val = (j 1).val) (h2 : (i 2).val = t.val % 16 * 512 + (j 2).val) :
    iblk m hO c 2 t j = m ((c : Thread nD τ).loc main_arg3) i := by
  have hj : (j 0).val = 0 := Nat.lt_one_iff.mp (j 0).isLt
  have e := transform_2 m (grid0.coords t)
  refine (congrArg (V m c main_v0) (?_ : _ = i)).trans (congrFun (V_main_v0 m c) i)
  refine Layer.ext3 ?_ ?_ ?_
  · rw [h0]; show cc0_transform_2 inb_S1_S1_0 numel1_S1 (tbl m) (grid0.coords t) 0 * 1 + 1 * (j 0).val = _
    rw [e, hj]; show (layer m).toNat * 1 + 1 * 0 = _; omega
  · rw [h1]; show cc0_transform_2 inb_S1_S1_0 numel1_S1 (tbl m) (grid0.coords t) 1 * 2048 + 1 * (j 1).val = _
    rw [e]; show 0 * 2048 + 1 * (j 1).val = _; omega
  · rw [h2]; show cc0_transform_2 inb_S1_S1_0 numel1_S1 (tbl m) (grid0.coords t) 2 * 512 + 1 * (j 2).val = _
    rw [e, ← coord1]; show (grid0.coords t 1).val * 512 + 1 * (j 2).val = _; omega

/-- The second weights' block at a point. -/
theorem blk_w2 (c : Dev nD) (t : Fin grid0.N) (j : S1x512x2048.Idx) (i : S4x8192x2048.Idx)
    (h0 : (i 0).val = (layer m).toNat) (h1 : (i 1).val = t.val % 16 * 512 + (j 1).val) (h2 : (i 2).val = (j 2).val) :
    iblk m hO c 3 t j = m ((c : Thread nD τ).loc main_arg4) i := by
  have hj : (j 0).val = 0 := Nat.lt_one_iff.mp (j 0).isLt
  have e := transform_3 m (grid0.coords t)
  refine (congrArg (V m c main_v1) (?_ : _ = i)).trans (congrFun (V_main_v1 m c) i)
  refine Layer.ext3 ?_ ?_ ?_
  · rw [h0]; show cc0_transform_3 inb_S1_S1_0 numel1_S1 (tbl m) (grid0.coords t) 0 * 1 + 1 * (j 0).val = _
    rw [e, hj]; show (layer m).toNat * 1 + 1 * 0 = _; omega
  · rw [h1]; show cc0_transform_3 inb_S1_S1_0 numel1_S1 (tbl m) (grid0.coords t) 1 * 512 + 1 * (j 1).val = _
    rw [e, ← coord1]; show (grid0.coords t 1).val * 512 + 1 * (j 1).val = _; omega
  · rw [h2]; show cc0_transform_3 inb_S1_S1_0 numel1_S1 (tbl m) (grid0.coords t) 2 * 2048 + 1 * (j 2).val = _
    rw [e]; show 0 * 2048 + 1 * (j 2).val = _; omega

/-- The share of the hidden unit numbered `f`, none past the last. -/
def term (c : Dev nD) (i : S32768x2048.Idx) (f : ℕ) : EReal :=
  if h : f < 8192 then unit ⟨(layer m).toNat, hl⟩ (m ((c : Thread nD τ).loc main_arg1)) (m ((c : Thread nD τ).loc main_arg2)) (m ((c : Thread nD τ).loc main_arg3)) (m ((c : Thread nD τ).loc main_arg4)) i ⟨f, h⟩ else 0

/-- The rows of the input that the points of one row of the grid share, normalized. -/
def shared (c : Dev nD) (b : Fin 32) (j : S1024x2048.Idx) : EReal :=
  Norm.rows (R := 32768) (m ((c : Thread nD τ).loc main_arg1)) (m ((c : Thread nD τ).loc main_arg2)) (place b j)

/-- The normalized rows of a point's block are the shared ones. -/
theorem block_rows (c : Dev nD) (t : Fin grid0.N) : Norm.rows (R := 1024) (iblk m hO c 0 t) (iblk m hO c 1 t) = shared m c (rowOf t) :=
  funext fun j => Norm.rows_congr (fun k => blk_x m hO c t _ _ rfl rfl) (fun k => blk_g m hO c t _) rfl

/-- The shares of a point's hidden units, as 512 consecutive ones of all. -/
theorem point_share (c : Dev nD) (t : Fin grid0.N) (j : S1024x2048.Idx) :
    share (shared m c (rowOf t)) (iblk m hO c 2 t) (iblk m hO c 3 t) j
      = ∑ f ∈ Finset.range 512, term m hl c (place (rowOf t) j) (t.val % 16 * 512 + f) := by
  rw [Finset.sum_range]
  unfold share term
  refine Finset.sum_congr rfl fun f _ => ?_
  have hf := f.isLt
  have hb : t.val % 16 * 512 + f.val < 8192 := by omega
  rw [dif_pos hb]
  unfold unit
  refine congrArg₂ (· * ·) (congrArg relu2 (Finset.sum_congr rfl fun k _ => congrArg₂ (· * ·) ?_ ?_)) ?_
  · exact congrArg _ (Layer.ext2 rfl rfl)
  · exact blk_w1 m hO c t (ix3 (0 : Fin 1) k f) (ix3 ⟨(layer m).toNat, hl⟩ k ⟨_, hb⟩) rfl rfl rfl
  · exact blk_w2 m hO c t (ix3 (0 : Fin 1) f (j 1)) (ix3 ⟨(layer m).toNat, hl⟩ ⟨_, hb⟩ (j 1)) rfl rfl rfl

/-- What the first point of a row of the grid leaves in its block of the result and in the scratch buffer. -/
theorem first (c : Dev nD) (t : Fin grid0.N) (h : t.val % 16 = 0) :
    outsAt0 m hO c t.val t.isLt
      = (plus (iblk m hO c 0 t) (share (shared m c (rowOf t)) (iblk m hO c 2 t) (iblk m hO c 3 t)), shared m c (rowOf t)) :=
  (outsAt0_A m hO c t h).trans (congrArg₂ Prod.mk
    ((stored_first c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) scM0_0 (Memref.isWhole_whole _) ((hcond0_0 t).mpr h) (iblk m hO c 0 t) (iblk m hO c 1 t) (iblk m hO c 2 t) (iblk m hO c 3 t) (tbl m 0)).trans
      (congrArg (fun r => plus (iblk m hO c 0 t) (share r (iblk m hO c 2 t) (iblk m hO c 3 t))) (block_rows m hO c t)))
    ((scratch_first c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) scM0_0 (Memref.isWhole_whole _) ((hcond0_0 t).mpr h) (iblk m hO c 0 t) (iblk m hO c 1 t) (iblk m hO c 2 t) (iblk m hO c 3 t) (tbl m 0)).trans
      (block_rows m hO c t)))

/-- What a later point leaves: its block with the point's shares added, the scratch buffer as it was. -/
theorem later (c : Dev nD) (t : Fin grid0.N) (h : ¬t.val % 16 = 0) (a s : S1024x2048.Idx → EReal)
    (hp : outsAt0 m hO c (t.val - 1) (Nat.lt_of_le_of_lt (Nat.sub_le _ _) t.isLt) = (a, s)) :
    outsAt0 m hO c t.val t.isLt = (plus a (share s (iblk m hO c 2 t) (iblk m hO c 3 t)), s) := by
  obtain rfl : (outsAt0 m hO c (t.val - 1) (Nat.lt_of_le_of_lt (Nat.sub_le _ _) t.isLt)).1 = a := congrArg Prod.fst hp
  obtain rfl : (outsAt0 m hO c (t.val - 1) (Nat.lt_of_le_of_lt (Nat.sub_le _ _) t.isLt)).2 = s := congrArg Prod.snd hp
  exact (outsAt0_B m hO c t h).trans (congrArg₂ Prod.mk
    (stored_later c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) scM0_0 (Memref.isWhole_whole _) (fun h' => h ((hcond0_0 t).mp h')) (iblk m hO c 0 t) (iblk m hO c 1 t) (iblk m hO c 2 t) (iblk m hO c 3 t) (tbl m 0)
      (outsAt0 m hO c (t.val - 1) (Nat.lt_of_le_of_lt (Nat.sub_le _ _) t.isLt)).1
      (outsAt0 m hO c (t.val - 1) (Nat.lt_of_le_of_lt (Nat.sub_le _ _) t.isLt)).2) rfl)

/-- The residual. -/
abbrev resid (c : Dev nD) : S32768x2048.Idx → EReal := m ((c : Thread nD τ).loc main_arg1)

/-- The residual plus the shares of the hidden units of the first `n` points of a row of the grid. -/
def partSum (c : Dev nD) (n : ℕ) (b : Fin 32) (j : S1024x2048.Idx) : EReal :=
  resid m c (place b j) + ∑ q ∈ Finset.range n, ∑ f ∈ Finset.range 512, term m hl c (place b j) (q * 512 + f)

/-- One more point's shares. -/
theorem partSum_succ (c : Dev nD) (t : Fin grid0.N) (j : S1024x2048.Idx) :
    partSum m hl c (t.val % 16) (rowOf t) j + share (shared m c (rowOf t)) (iblk m hO c 2 t) (iblk m hO c 3 t) j
      = partSum m hl c (t.val % 16 + 1) (rowOf t) j := by
  unfold partSum
  rw [Finset.sum_range_succ, ← add_assoc, point_share m hO hl]

/-- What every point leaves. -/
theorem left (c : Dev nD) : ∀ (n : ℕ) (hn : n < grid0.N),
    outsAt0 m hO c n hn = (partSum m hl c (n % 16 + 1) (rowOf ⟨n, hn⟩), shared m c (rowOf ⟨n, hn⟩)) := by
  have start (t : Fin grid0.N) (h : t.val % 16 = 0) :
      outsAt0 m hO c t.val t.isLt = (partSum m hl c (t.val % 16 + 1) (rowOf t), shared m c (rowOf t)) := by
    refine (first m hO c t h).trans (congrArg (·, shared m c (rowOf t)) (funext fun j => ?_))
    refine Eq.trans (congrArg (· + _) ?_) (partSum_succ m hO hl c t j)
    unfold partSum
    rw [h, Finset.sum_range_zero, add_zero]
    exact blk_x m hO c t j _ rfl rfl
  intro n
  induction n with
  | zero => exact fun hn => start ⟨0, hn⟩ rfl
  | succ n ih =>
    intro hn
    by_cases h : (n + 1) % 16 = 0
    · exact start ⟨n + 1, hn⟩ h
    · have hr : rowOf ⟨n, Nat.lt_of_succ_lt hn⟩ = rowOf ⟨n + 1, hn⟩ := Fin.ext (by show n / 16 = (n + 1) / 16; omega)
      have hq : n % 16 + 1 = (n + 1) % 16 := by omega
      refine (later m hO c ⟨n + 1, hn⟩ h _ _ (ih (Nat.lt_of_succ_lt hn))).trans ?_
      rw [hr, hq]
      exact congrArg (·, _) (funext fun j => partSum_succ m hO hl c ⟨n + 1, hn⟩ j)

/-- What the last point of a row of the grid leaves in its block, at an index. -/
theorem point (c : Dev nD) (t : Fin grid0.N) (h : t.val % 16 = 15) (y : S1024x2048.Idx) (i : S32768x2048.Idx)
    (h0 : (i 0).val = t.val / 16 * 1024 + (y 0).val) (h1 : (i 1).val = (y 1).val) :
    (outsAt0 m hO c t.val t.isLt).1 y = out ⟨(layer m).toNat, hl⟩ (m ((c : Thread nD τ).loc main_arg1)) (m ((c : Thread nD τ).loc main_arg2)) (m ((c : Thread nD τ).loc main_arg3)) (m ((c : Thread nD τ).loc main_arg4)) i := by
  obtain rfl : place (rowOf t) y = i := Layer.ext2 h0.symm h1.symm
  refine (congrFun (congrArg Prod.fst (left m hO hl c t.val t.isLt)) y).trans ?_
  unfold partSum out
  dsimp only
  rw [h, sum_blocks, Finset.sum_range]
  refine congrArg _ (Finset.sum_congr rfl fun f _ => ?_)
  unfold term
  exact dif_pos f.isLt

/-- Where a block of the result lies. -/
theorem emb0 (t : Fin grid0.N) (y : S1024x2048.Idx) :
    ((((cfgM m hO).win 4).blk t).view.emb y (0 : Fin 2)).val = t.val / 16 * 1024 + (y 0).val := by
  show (BitVec.ofNat 32 (grid0.coords t 0).val).toNat * 1024 + 1 * (y 0).val = _
  rw [coord0, Nat.one_mul]

theorem emb1 (t : Fin grid0.N) (y : S1024x2048.Idx) : ((((cfgM m hO).win 4).blk t).view.emb y (1 : Fin 2)).val = (y 1).val := by
  show 0 * 2048 + 1 * (y 1).val = _; omega

/-- The array the call leaves. -/
theorem final (c : Dev nD) : (dats m hO 0 c).arrAt 4 (cfgM m hO).N = out ⟨(layer m).toNat, hl⟩ (m ((c : Thread nD τ).loc main_arg1)) (m ((c : Thread nD τ).loc main_arg2)) (m ((c : Thread nD τ).loc main_arg3)) (m ((c : Thread nD τ).loc main_arg4)) :=
  (dats m hO 0 c).arrAt_eq_of_covers 4 _ (covers m hO) fun t ht y =>
    (congrFun (after0_4 m hO c t) y).trans (point m hO hl c t ((flush0_4 _ t).mp ht) y _ (emb0 m hO t y) (emb1 m hO t y))

include hO in
/-- The kernel's run: the result is `out` of the arguments, which end unchanged. -/
theorem run : θ_run defs (onTc (τ := τ) (main (F := Ideal))) ⟨m, fun _ => 0, ρ⟩ fun r => ∀ c : Dev nD,
      r.2.mem ((c.tc : Thread nD τ).loc main_v2) = out ⟨(layer m).toNat, hl⟩ (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 4).trans (final m hO hl c), h.2 c⟩)
    (θ_run_and (run_main m ρ hO) (unchanged m ρ hO))

end Kernel

/-! ## The reference -/

section Reference

open Cert.MlpRefIdeal.Read

variable (l : Fin 4) (x0 : S1.Idx → BitVec 32) (h : (x0 (ix1 (0 : Fin 1))).toInt = ((x0 (ix1 (0 : Fin 1))).toNat : Int))
  (hl : (x0 (ix1 (0 : Fin 1))).toNat = l.val)

include h hl in
/-- The reference's first weights are the layer's. -/
theorem weights1 (w : S4x2048x8192.Idx → EReal) (i : MlpRefIdeal.S2048x8192.Idx) :
    val_main_v19 (F := Ideal) x0 w i = w (ix3 l (i 0) (i 1)) := by
  rw [val_main_v19_apply]
  unfold val_main_v18
  have h0 : (i 0).val < 2048 := (i 0).isLt
  have h1 : (i 1).val < 8192 := (i 1).isLt
  rw [show MlpRefIdeal.Read.idx_main_v19 i = ix3 (0 : Fin 1) (i 0) (i 1) from Layer.ext3 rfl
    (by show ((i 0).val * 8192 + (i 1).val) / 8192 % 2048 = (i 0).val; omega)
    (by show ((i 0).val * 8192 + (i 1).val) % 8192 = (i 1).val; omega)]
  refine Layer.gather_layer _ w _ l ?_ 0 (i 0) (i 1)
  rw [val_main_v17_apply, val_main_v16_apply, val_main_v13_apply, val_main_v12_apply, val_main_c_apply,
    show idx_main_v17 (ix2 0 0) = ix1 (0 : Fin 1) from Layer.one_eq _ _, Layer.wrap_of_nonneg _ _ h, h, hl]

include h hl in
/-- The reference's second weights are the layer's. -/
theorem weights2 (w : S4x8192x2048.Idx → EReal) (i : MlpRefIdeal.S8192x2048.Idx) :
    val_main_v30 (F := Ideal) x0 w i = w (ix3 l (i 0) (i 1)) := by
  rw [val_main_v30_apply]
  unfold val_main_v29
  have h0 : (i 0).val < 8192 := (i 0).isLt
  have h1 : (i 1).val < 2048 := (i 1).isLt
  rw [show MlpRefIdeal.Read.idx_main_v30 i = ix3 (0 : Fin 1) (i 0) (i 1) from Layer.ext3 rfl
    (by show ((i 0).val * 2048 + (i 1).val) / 2048 % 8192 = (i 0).val; omega)
    (by show ((i 0).val * 2048 + (i 1).val) % 2048 = (i 1).val; omega)]
  refine Layer.gather_layer _ w _ l ?_ 0 (i 0) (i 1)
  rw [val_main_v28_apply, val_main_v27_apply, val_main_v24_apply, val_main_v23_apply, val_main_c_3_apply,
    show idx_main_v28 (ix2 0 0) = ix1 (0 : Fin 1) from Layer.one_eq _ _, Layer.wrap_of_nonneg _ _ h, h, hl]

include h hl in
/-- The reference's result is `out` of its arguments. -/
theorem reference (x1 : S32768x2048.Idx → EReal) (x2 : S1x2048.Idx → EReal) (x3 : S4x2048x8192.Idx → EReal) (x4 : S4x8192x2048.Idx → EReal) :
    val_main_v32 (F := Ideal) x0 x1 x2 x3 x4 = out l x1 x2 x3 x4 := by
  funext i
  rw [val_main_v32_apply]
  refine congrArg (x1 i + ·) ((val_main_v31_apply x0 x1 x2 x3 x4 i).trans (Finset.sum_congr rfl fun f _ => ?_))
  rw [val_main_v22_apply, val_main_v21_apply, val_main_call0_v0_apply, val_main_call0_cst_apply]
  refine congrArg₂ (· * ·) (congrArg relu2 ((val_main_v20_apply x0 x1 x2 x3 _).trans (Finset.sum_congr rfl fun k _ => congrArg₂ (· * ·) ?_ ?_))) ?_
  · exact (Norm.reference x1 x2 _).trans (congrArg _ (Layer.ext2 rfl rfl))
  · exact (weights1 l x0 h hl x3 _).trans (congrArg x3 (Layer.ext3 rfl rfl rfl))
  · exact (weights2 l x0 h hl x4 _).trans (congrArg x4 (Layer.ext3 rfl rfl rfl))

end Reference

/-- From memories with the same arguments both programs end with the same result. -/
theorem algebraic : Cert.algebraic_MlpIdeal_MlpRefIdeal := by
  intro m g m' g' hp hm
  obtain ⟨hl, ht⟩ := bounds m hp
  refine ⟨fun c => out ⟨(layer m).toNat, hl⟩ (m ((c : Thread nD τ).loc main_arg1)) (m ((c : Thread nD τ).loc main_arg2)) (m ((c : Thread nD τ).loc main_arg3)) (m ((c : Thread nD τ).loc main_arg4)), run m g (ok m hl) hl, ?_⟩
  refine (θ_run _ _ _).mono (fun r h c => ?_) (Cert.MlpRefIdeal.Value.run m' g')
  obtain ⟨e0, e1, e2, e3, e4⟩ := hm c
  obtain rfl : c = 0 := Subsingleton.elim _ _
  refine ⟨(h 0).1.trans ?_, (h 0).2⟩
  rw [MlpRefIdeal.Read.val_main_v32_eq]
  rw [e0, e1, e2, e3, e4]
  exact reference _ _ ht rfl _ _ _ _

end Cert.Proof.Mlp

end
-- ==== Proof.InprojTables.lean ====
/- The input projection's prefetched layer number: which block of the stacked weights a point of the grid reads, that it lies inside the
   stack when the number is below 4, and with that the frames of the program and of its ideal. -/
module

public import proofs.«01_k».proof.Defs
public import proofs.«01_k».proof.Proof.Gen.Inproj.Frame
public import proofs.«01_k».proof.Proof.Gen.InprojIdeal.Frame
public import proofs.«01_k».proof.Proof.Gen.Pre_inproj_layer
public import proofs.«01_k».proof.Proof.Layer
public import Idealize.ShloMosaic.Lib.Pipeline.Value

@[expose] public section

noncomputable section

namespace Cert.Proof.Tables.Inproj

open Cert.Inproj Cert.Inproj.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 13 := (i 1).isLt
  unfold cc0_transform_2
  simp only []
  rw [word]
  funext a
  match a with
  | ⟨0, _⟩ => rfl
  | ⟨1, _⟩ => rfl
  | ⟨2, _⟩ => show (0#32 + BitVec.ofNat 32 (i 1).val).toNat = _; simp; omega

/-- With the layer number below 4 every block of the weights lies inside the stack. -/
theorem ok (h : (layer m).toNat < 4) : Ok m := by
  intro i
  have hi : (i 1).val < 13 := (i 1).isLt
  have hb : ∀ a, (cc0_transform_2 inb_S1_S1_0 numel1_S1 (tbl m) i a + 1) * S1x2048x1024.size a ≤ S4x2048x13312.size a := by
    rw [transform_2]
    intro a
    match a with
    | ⟨0, _⟩ => show ((layer m).toNat + 1) * 1 ≤ 4; omega
    | ⟨1, _⟩ => show (0 + 1) * 2048 ≤ 2048; omega
    | ⟨2, _⟩ => show ((i 1).val + 1) * 1024 ≤ 13312; omega
  exact ⟨hb, .inr (Affine.block_words_dvd (of_decide_eq_true rfl) (by decide))⟩

end

/-- The layer number's bounds, from the precondition. -/
theorem bounds (m : (ℓ : Loc nD τ sig) → Buf (Elt Bits) ℓ) (h : Cert.Pre_Inproj m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_Inproj := fun m ρ h => frame m ρ (ok m (bounds m h).1)

end Cert.Proof.Tables.Inproj

namespace Cert.Proof.Tables.InprojIdeal

open Cert.InprojIdeal Cert.InprojIdeal.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 13 := (i 1).isLt
  unfold cc0_transform_2
  simp only []
  rw [word]
  funext a
  match a with
  | ⟨0, _⟩ => rfl
  | ⟨1, _⟩ => rfl
  | ⟨2, _⟩ => show (0#32 + BitVec.ofNat 32 (i 1).val).toNat = _; simp; omega

/-- With the layer number below 4 every block of the weights lies inside the stack. -/
theorem ok (h : (layer m).toNat < 4) : Ok m := by
  intro i
  have hi : (i 1).val < 13 := (i 1).isLt
  have hb : ∀ a, (cc0_transform_2 inb_S1_S1_0 numel1_S1 (tbl m) i a + 1) * S1x2048x1024.size a ≤ S4x2048x13312.size a := by
    rw [transform_2]
    intro a
    match a with
    | ⟨0, _⟩ => show ((layer m).toNat + 1) * 1 ≤ 4; omega
    | ⟨1, _⟩ => show (0 + 1) * 2048 ≤ 2048; omega
    | ⟨2, _⟩ => show ((i 1).val + 1) * 1024 ≤ 13312; omega
  exact ⟨hb, .inr (Affine.block_words_dvd (of_decide_eq_true rfl) (by decide))⟩

end

/-- The layer number's bounds, from the precondition. -/
theorem bounds (m : (ℓ : Loc nD τ sig) → Buf (Elt Ideal) ℓ) (h : Cert.Pre_InprojIdeal m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_InprojIdeal := fun m ρ h => frame m ρ (ok m (bounds m h).1)

end Cert.Proof.Tables.InprojIdeal

end
-- ==== Proof.Inproj.lean ====
/- The input projection: what the kernel leaves and what its reference leaves are the same array, the normalized rows times the
   layer's input weights. -/
module

public import proofs.«01_k».proof.Defs
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.Pre_inproj_layer
public import proofs.«01_k».proof.Proof.InprojTables
public import proofs.«01_k».proof.Proof.Norm
public import Idealize.ShloMosaic.Lib.Pipeline.Value
public import Idealize.ShloMosaic.Lib.Pipeline.ValueKit
public import Idealize.ShloMosaic.Lib.Pipeline.CanonAppend
import Idealize.ShloMosaic.Lib.Pointwise

@[expose] public section

noncomputable section

namespace Cert.Proof.Inproj

open Cert.InprojIdeal Cert.InprojIdeal.Gen Cert.Proof.Tables.InprojIdeal
open Idealize.ShloMosaic Idealize.ShloMosaic.TcCoe Idealize.SL.Sem

/-- The product of the normalized rows of the input with the layer's input weights. -/
def out (l : Fin 4) (x : S32768x2048.Idx → EReal) (g : S1x2048.Idx → EReal) (w : S4x2048x13312.Idx → EReal) (i : S32768x13312.Idx) : EReal :=
  ∑ k : Fin 2048, Norm.rows (R := 32768) x g (ix2 (i 0) k) * w (ix3 l k (i 1))

/-! ## What one point of the grid leaves -/

section Body

variable (c : Dev nD) (i : grid0.Coords) (arg3 : Memref sig .tc .vmem S1024x2048 .f32) (harg3 : arg3.IsWhole) (arg4 : Memref sig .tc .vmem S1x2048 .f32) (harg4 : arg4.IsWhole)
  (arg5 : Memref sig .tc .vmem S1x2048x1024 .bf16) (harg5 : arg5.IsWhole) (arg6 : Memref sig .tc .vmem S1024x1024 .bf16) (harg6 : arg6.IsWhole)
  (arg7 : Memref sig .tc .vmem S1024x2048 .bf16) (harg7 : arg7.IsWhole)

/-- The rows that a trip of the body's loop stores are the block's normalized rows. -/
theorem trip (h : k0_cond1 i = 1#1) (x0 : Vec Ideal S1024x2048 .f32) (x1 : Vec Ideal S1x2048 .f32) (k : Fin k0_t1_loop.trips) :
    ∀ p ∈ tripL_k0_t1 (F := Ideal) Variants.none c none i tbM0_0 htbM0_0 arg3 harg3 arg4 harg4 arg5 harg5 arg6 harg6 arg7 harg7 h (harg3.unread x0) (harg4.unread x1) k,
      ∀ y : p.1.shape.Idx, p.2 y = Norm.rows (R := 1024) x0 x1 (p.1.emb y) := by
  unfold tripL_k0_t1 trip_k0_t1
  intro p hp
  obtain rfl := List.mem_singleton.mp hp
  intro y
  refine (Norm.pay _ _ y).trans (Norm.rows_congr (fun j => ?_) (fun j => ?_) ?_)
  · rw [View.readAt_eq_ld, harg3.read_unread]
    exact congrArg x0 (Layer.ext2 rfl (by show k0_off1 k 1 + 1 * j.val = j.val; show 0 + 1 * j.val = j.val; omega))
  · rw [View.readAt_eq_ld, harg4.read_unread]
    exact congrArg x1 (Layer.ext2 rfl (by show 0 + 1 * j.val = j.val; omega))
  · show (y 1).val = 0 + 1 * (y 1).val; omega

/-- So do all its trips up to the `n`-th. -/
theorem pieces (h : k0_cond1 i = 1#1) (x0 : Vec Ideal S1024x2048 .f32) (x1 : Vec Ideal S1x2048 .f32) :
    ∀ n ≤ k0_t1_loop.trips, ∀ p ∈ pb_k0_t1 (F := Ideal) Variants.none c none i tbM0_0 htbM0_0 arg3 harg3 arg4 harg4 arg5 harg5 arg6 harg6 arg7 harg7 h (harg3.unread x0) (harg4.unread x1) n,
      ∀ y : p.1.shape.Idx, p.2 y = Norm.rows (R := 1024) x0 x1 (p.1.emb y)
  | 0, _, p, hp => absurd hp (by rw [pb_k0_t1.eq_1]; exact List.not_mem_nil)
  | n + 1, hn, p, hp => by
    rw [pb_k0_t1_succ (F := Ideal) Variants.none c none i tbM0_0 htbM0_0 arg3 harg3 arg4 harg4 arg5 harg5 arg6 harg6 arg7 harg7 h (harg3.unread x0) (harg4.unread x1) ⟨n, hn⟩] at hp
    rcases List.mem_append.mp hp with hp | hp
    · exact trip c i arg3 harg3 arg4 harg4 arg5 harg5 arg6 harg6 arg7 harg7 h x0 x1 ⟨n, hn⟩ p hp
    · exact pieces h x0 x1 n (Nat.le_of_lt hn) p hp

/-- The first point of a row of the grid leaves the block's normalized rows in the scratch buffer. -/
theorem scratch_first (h : cond0_0 i) (x0 : Vec Ideal S1024x2048 .f32) (x1 : Vec Ideal S1x2048 .f32) (x2 : Vec Ideal S1x2048x1024 .bf16) (l : TbBuf0 (F := Ideal) c tbM0_0) :
    sout0_A_0 c i arg3 harg3 arg4 harg4 arg5 harg5 arg6 harg6 arg7 harg7 h x0 x1 x2 l = Norm.rows (R := 1024) x0 x1 := by
  funext y
  have hc := scover0_A_0 c i arg3 harg3 arg4 harg4 arg5 harg5 arg6 harg6 arg7 harg7 h x0 x1 x2 l y
  have hp := pieces c i arg3 harg3 arg4 harg4 arg5 harg5 arg6 harg6 arg7 harg7 h x0 x1 _ le_rfl
  unfold sout0_A_0
  rw [View.read_writes_junk_eq_canon]
  rw [← List.append_nil (kernelRun0_A c i arg3 harg3 arg4 harg4 arg5 harg5 arg6 harg6 arg7 harg7 h x0 x1 x2 l).2.1]
  exact View.canon_append_of_pieces _ [] _ hp y hc

/-- The product of a block of normalized rows with a block of the weights. -/
def dot (h : S1024x2048.Idx → EReal) (w : S1x2048x1024.Idx → EReal) (j : S1024x1024.Idx) : EReal :=
  ∑ k : Fin 2048, h (ix2 (j 0) k) * w (ix3 (0 : Fin 1) k (j 1))

/-- The product at an index, from the values of its factors there. -/
theorem dot_congr (h : S1024x2048.Idx → EReal) (w : S1x2048x1024.Idx → EReal) (j : S1024x1024.Idx) (a b : Fin 2048 → EReal)
    (ha : ∀ k, h (ix2 (j 0) k) = a k) (hb : ∀ k, w (ix3 (0 : Fin 1) k (j 1)) = b k) : dot h w j = ∑ k, a k * b k :=
  Finset.sum_congr rfl fun k _ => congrArg₂ (fun u v : EReal => u * v) (ha k) (hb k)

/-- What the body stores, at an index. -/
theorem pay (h : Vec Ideal S1024x2048 .bf16) (w : Vec Ideal S1x2048x1024 .bf16) : k0_pay2 h w = dot h w := by
  funext j
  unfold k0_pay2 dot
  pointwise

/-- What the first point of a row of the grid leaves in its block of the result. -/
theorem stored_first (h : cond0_0 i) (x0 : Vec Ideal S1024x2048 .f32) (x1 : Vec Ideal S1x2048 .f32) (x2 : Vec Ideal S1x2048x1024 .bf16) (l : TbBuf0 (F := Ideal) c tbM0_0) :
    out0_A_3 c i arg3 harg3 arg4 harg4 arg5 harg5 arg6 harg6 arg7 harg7 h x0 x1 x2 l = dot (Norm.rows (R := 1024) x0 x1) x2 := by
  rw [← pay, ← scratch_first c i arg3 harg3 arg4 harg4 arg5 harg5 arg6 harg6 arg7 harg7 h x0 x1 x2 l]
  unfold out0_A_3 sout0_A_0
  rw [View.read_writes_junk_eq_canon, View.read_writes_junk_eq_canon]
  unfold kernelRun0_A
  dsimp only
  rw [View.canon_unit_zero (by funext a; match a with | ⟨0, _⟩ => rfl | ⟨1, _⟩ => rfl)]
  rw [View.readCov_eq_canon', View.readAt_eq_ld, harg5.read_unread]
  refine congrArg₂ k0_pay2 (funext fun y => congrArg _ ?_) (funext fun y => congrArg x2 ?_)
  · exact Layer.ext2 (by show 0 + 1 * (y 0).val = _; omega) (by show 0 + 1 * (y 1).val = _; omega)
  · exact Layer.ext3 (by show 0 + 1 * (y 0).val = _; omega) (by show 0 + 1 * (y 1).val = _; omega) (by show 0 + 1 * (y 2).val = _; omega)

/-- What a later point leaves in its block of the result, the scratch buffer holding `s`. -/
theorem stored_later (h : ¬cond0_0 i) (x0 : Vec Ideal S1024x2048 .f32) (x1 : Vec Ideal S1x2048 .f32) (x2 : Vec Ideal S1x2048x1024 .bf16) (l : TbBuf0 (F := Ideal) c tbM0_0)
    (s : Vec Ideal S1024x2048 .bf16) :
    out0_B_3 c i arg3 harg3 arg4 harg4 arg5 harg5 arg6 harg6 arg7 harg7 h x0 x1 x2 l s = dot s x2 := by
  rw [← pay]
  frame_out

end Body

section Kernel

variable (m : (ℓ : Loc nD τ sig) → Buf (Elt Ideal) ℓ) (ρ : Dev nD → PrngReg) (hO : Ok m) (hl : (layer m).toNat < 4)

/-- The weights that the launch hands to the grid are the argument's. -/
theorem V_main_v0 (c : Dev nD) : V m c main_v0 = m ((c : Thread nD τ).loc main_arg3) := by
  show StableHlo.after hostOps0 (fun b => m (c, b)) main_v0 = _
  unfold hostOps0
  after_results <;> rfl

/-- Every block of the result is some point's. -/
theorem onto : ∀ (b0 : Fin 32) (b1 : Fin 13), ∃ t : Fin grid0.N, cc0_transform_3 (grid0.coords t) = ![b0.val, b1.val] := by
  decide +kernel

/-- The blocks written back cover the result. -/
theorem covers : ((cfgM m hO).win 3).Covers :=
  ⟨fun a => by match a with
    | ⟨0, _⟩ => exact (by decide : 0 < 1024)
    | ⟨1, _⟩ => exact (by decide : 0 < 1024), fun β => by
    obtain ⟨t, ht⟩ := onto ⟨(β (0 : Fin 2)).val, lt_of_lt_of_eq (β (0 : Fin 2)).isLt (show (32768 + 1024 - 1) / 1024 = 32 by decide)⟩
      ⟨(β (1 : Fin 2)).val, lt_of_lt_of_eq (β (1 : Fin 2)).isLt (show (13312 + 1024 - 1) / 1024 = 13 by decide)⟩
    refine ⟨t, flush0_3 _ t, fun a => ⟨?_, .inl rfl⟩⟩
    show cc0_transform_3 (grid0.coords t) a = _
    rw [ht]
    match a with
    | ⟨0, _⟩ => rfl
    | ⟨1, _⟩ => rfl⟩

/-- The grid's coordinates as numbers of blocks. -/
theorem coord0 (t : Fin grid0.N) : (BitVec.ofNat 32 (grid0.coords t 0).val).toNat = (grid0.coords t 0).val := by
  have : (grid0.coords t 0).val < 32 := (grid0.coords t 0).isLt
  simp; omega

theorem coord1 (t : Fin grid0.N) : (BitVec.ofNat 32 (grid0.coords t 1).val).toNat = (grid0.coords t 1).val := by
  have : (grid0.coords t 1).val < 13 := (grid0.coords t 1).isLt
  simp; omega

/-- The grid's first coordinate counts its rows. -/
theorem row_of (t : Fin grid0.N) : (grid0.coords t 0).val = t.val / 13 := by
  have ht : t.val < 416 := Nat.lt_of_lt_of_eq t.isLt N_0
  have e0 : (grid0.coords t 0).val = t.val / 13 % 32 := Pipeline.Grid.coords_val t 0 (by decide) rfl
  omega

/-- The input's block at a point. -/
theorem blk_x (c : Dev nD) (t : Fin grid0.N) (j : S1024x2048.Idx) (i : S32768x2048.Idx)
    (h0 : (i 0).val = (grid0.coords t 0).val * 1024 + (j 0).val) (h1 : (i 1).val = (j 1).val) :
    iblk m hO c 0 t j = m ((c : Thread nD τ).loc main_arg1) i := by
  refine (congrArg (V m c main_arg1) (?_ : _ = i)).trans (congrFun (V_main_arg1 m c) i)
  refine Layer.ext2 ?_ ?_
  · rw [h0, ← coord0]; exact congrArg (_ + ·) (Nat.one_mul _)
  · rw [h1]; show 0 * 2048 + 1 * (j 1).val = _; omega

/-- The gain's block at a point: all of it. -/
theorem blk_g (c : Dev nD) (t : Fin grid0.N) (j : S1x2048.Idx) : iblk m hO c 1 t j = m ((c : Thread nD τ).loc main_arg2) j := by
  refine (congrArg (V m c main_arg2) (?_ : _ = j)).trans (congrFun (V_main_arg2 m c) j)
  refine Layer.ext2 ?_ ?_
  · show 0 * 1 + 1 * (j 0).val = _; omega
  · show 0 * 2048 + 1 * (j 1).val = _; omega

/-- The weights' block at a point. -/
theorem blk_w (c : Dev nD) (t : Fin grid0.N) (j : S1x2048x1024.Idx) (i : S4x2048x13312.Idx)
    (h0 : (i 0).val = (layer m).toNat) (h1 : (i 1).val = (j 1).val) (h2 : (i 2).val = (grid0.coords t 1).val * 1024 + (j 2).val) :
    iblk m hO c 2 t j = m ((c : Thread nD τ).loc main_arg3) i := by
  have hj : (j 0).val = 0 := Nat.lt_one_iff.mp (j 0).isLt
  have e := transform_2 m (grid0.coords t)
  refine (congrArg (V m c main_v0) (?_ : _ = i)).trans (congrFun (V_main_v0 m c) i)
  refine Layer.ext3 ?_ ?_ ?_
  · rw [h0]; show cc0_transform_2 inb_S1_S1_0 numel1_S1 (tbl m) (grid0.coords t) 0 * 1 + 1 * (j 0).val = _
    rw [e, hj]; show (layer m).toNat * 1 + 1 * 0 = _; omega
  · rw [h1]; show cc0_transform_2 inb_S1_S1_0 numel1_S1 (tbl m) (grid0.coords t) 1 * 2048 + 1 * (j 1).val = _
    rw [e]; show 0 * 2048 + 1 * (j 1).val = _; omega
  · rw [h2]; show cc0_transform_2 inb_S1_S1_0 numel1_S1 (tbl m) (grid0.coords t) 2 * 1024 + 1 * (j 2).val = _
    rw [e]; show (grid0.coords t 1).val * 1024 + 1 * (j 2).val = _; omega

/-- The rows of the input that the points of one row of the grid share, normalized. -/
def shared (c : Dev nD) (b : Nat) (j : S1024x2048.Idx) : EReal :=
  if h : b * 1024 + (j 0).val < 32768 then
    Norm.rows (R := 32768) (m ((c : Thread nD τ).loc main_arg1)) (m ((c : Thread nD τ).loc main_arg2)) (ix2 ⟨b * 1024 + (j 0).val, h⟩ (j 1))
  else 0

/-- The normalized rows of a point's block are the shared ones. -/
theorem block_rows (c : Dev nD) (t : Fin grid0.N) : Norm.rows (R := 1024) (iblk m hO c 0 t) (iblk m hO c 1 t) = shared m c (t.val / 13) := by
  funext j
  have ht : t.val < 416 := Nat.lt_of_lt_of_eq t.isLt N_0
  have hj : (j 0).val < 1024 := (j 0).isLt
  unfold shared
  rw [dif_pos (by omega)]
  exact Norm.rows_congr (fun k => blk_x m hO c t _ _ (by rw [row_of]; rfl) rfl) (fun k => blk_g m hO c t _) rfl

/-- What the first point of a row of the grid leaves in its block of the result and in the scratch buffer. -/
theorem first (c : Dev nD) (t : Fin grid0.N) (h : t.val % 13 = 0) :
    outsAt0 m hO c t.val t.isLt = (dot (shared m c (t.val / 13)) (iblk m hO c 2 t), shared m c (t.val / 13)) :=
  (outsAt0_A m hO c t h).trans (congrArg₂ Prod.mk
    ((stored_first c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) ((hcond0_0 t).mpr h) (iblk m hO c 0 t) (iblk m hO c 1 t) (iblk m hO c 2 t) (tbl m 0)).trans
      (congrArg (dot · (iblk m hO c 2 t)) (block_rows m hO c t)))
    ((scratch_first c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) ((hcond0_0 t).mpr h) (iblk m hO c 0 t) (iblk m hO c 1 t) (iblk m hO c 2 t) (tbl m 0)).trans
      (block_rows m hO c t)))

/-- What a later point leaves: the scratch buffer as it was. -/
theorem later (c : Dev nD) (t : Fin grid0.N) (h : ¬t.val % 13 = 0) (s : S1024x2048.Idx → EReal)
    (hs : (outsAt0 m hO c (t.val - 1) (Nat.lt_of_le_of_lt (Nat.sub_le _ _) t.isLt)).2 = s) :
    outsAt0 m hO c t.val t.isLt = (dot s (iblk m hO c 2 t), s) := by
  subst hs
  exact (outsAt0_B m hO c t h).trans (congrArg₂ Prod.mk
    (stored_later c (grid0.coords t) (ms0_0 m hO t) (hs0_0 m hO t) (ms0_1 m hO t) (hs0_1 m hO t) (ms0_2 m hO t) (hs0_2 m hO t)
      (ms0_3 m hO t) (hs0_3 m hO t) scM0_0 (Memref.isWhole_whole _) (fun h' => h ((hcond0_0 t).mp h')) (iblk m hO c 0 t) (iblk m hO c 1 t) (iblk m hO c 2 t) (tbl m 0)
      (outsAt0 m hO c (t.val - 1) (Nat.lt_of_le_of_lt (Nat.sub_le _ _) t.isLt)).2) rfl)

/-- What every point leaves. -/
theorem left (c : Dev nD) : ∀ (n : ℕ) (hn : n < grid0.N),
    outsAt0 m hO c n hn = (dot (shared m c (n / 13)) (iblk m hO c 2 ⟨n, hn⟩), shared m c (n / 13)) := by
  intro n
  induction n with
  | zero => exact fun hn => first m hO c ⟨0, hn⟩ rfl
  | succ n ih =>
    intro hn
    by_cases h : (n + 1) % 13 = 0
    · exact first m hO c ⟨n + 1, hn⟩ h
    · refine later m hO c ⟨n + 1, hn⟩ h _ ((congrArg Prod.snd (ih (Nat.lt_of_succ_lt hn))).trans (congrArg (shared m c) ?_))
      show n / 13 = (n + 1) / 13
      omega

/-- What a point leaves in its block, at an index. -/
theorem point (c : Dev nD) (t : Fin grid0.N) (y : S1024x1024.Idx) (i : S32768x13312.Idx)
    (h0 : (i 0).val = (grid0.coords t 0).val * 1024 + (y 0).val) (h1 : (i 1).val = (grid0.coords t 1).val * 1024 + (y 1).val) :
    (outsAt0 m hO c t.val t.isLt).1 y = out ⟨(layer m).toNat, hl⟩ (m ((c : Thread nD τ).loc main_arg1)) (m ((c : Thread nD τ).loc main_arg2)) (m ((c : Thread nD τ).loc main_arg3)) i := by
  refine (congrFun (congrArg Prod.fst (left m hO c t.val t.isLt)) y).trans ?_
  unfold out
  refine dot_congr (shared m c (t.val / 13)) (iblk m hO c 2 t) y _ _ (fun k => ?_)
    fun k => blk_w m hO c t (ix3 (0 : Fin 1) k (y 1)) (ix3 ⟨(layer m).toNat, hl⟩ k (i 1)) rfl rfl h1
  have hi : (i 0).val < 32768 := (i 0).isLt
  rw [row_of] at h0
  unfold shared
  exact (dif_pos (show t.val / 13 * 1024 + (y 0).val < 32768 by omega)).trans (congrArg _ (Layer.ext2 h0.symm rfl))

/-- Where a block of the result lies. -/
theorem emb0 (t : Fin grid0.N) (y : S1024x1024.Idx) :
    ((((cfgM m hO).win 3).blk t).view.emb y (0 : Fin 2)).val = (grid0.coords t 0).val * 1024 + (y 0).val := by
  show (BitVec.ofNat 32 (grid0.coords t 0).val).toNat * 1024 + 1 * (y 0).val = _
  rw [coord0, Nat.one_mul]

theorem emb1 (t : Fin grid0.N) (y : S1024x1024.Idx) :
    ((((cfgM m hO).win 3).blk t).view.emb y (1 : Fin 2)).val = (grid0.coords t 1).val * 1024 + (y 1).val := by
  show (BitVec.ofNat 32 (grid0.coords t 1).val).toNat * 1024 + 1 * (y 1).val = _
  rw [coord1, Nat.one_mul]

/-- The array the call leaves. -/
theorem final (c : Dev nD) : (dats m hO 0 c).arrAt 3 (cfgM m hO).N = out ⟨(layer m).toNat, hl⟩ (m ((c : Thread nD τ).loc main_arg1)) (m ((c : Thread nD τ).loc main_arg2)) (m ((c : Thread nD τ).loc main_arg3)) :=
  (dats m hO 0 c).arrAt_eq_of_covers 3 _ (covers m hO) fun t _ y =>
    (congrFun (after0_3 m hO c t) y).trans (point m hO hl c t y _ (emb0 m hO t y) (emb1 m hO t y))

include hO in
/-- The kernel's run: the result is `out` of the arguments, which end unchanged. -/
theorem run : θ_run defs (onTc (τ := τ) (main (F := Ideal))) ⟨m, fun _ => 0, ρ⟩ fun r => ∀ c : Dev nD,
      r.2.mem ((c.tc : Thread nD τ).loc main_v1) = out ⟨(layer m).toNat, hl⟩ (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 3).trans (final m hO hl c), h.2 c⟩)
    (θ_run_and (run_main m ρ hO) (unchanged m ρ hO))

end Kernel

/-! ## The reference -/

section Reference

open Cert.InprojRefIdeal.Read

/-- The reference's result is `out` of its arguments. -/
theorem reference (l : Fin 4) (x0 : S1.Idx → BitVec 32) (x1 : S32768x2048.Idx → EReal) (x2 : S1x2048.Idx → EReal) (x3 : S4x2048x13312.Idx → EReal)
    (h : (x0 (ix1 (0 : Fin 1))).toInt = ((x0 (ix1 (0 : Fin 1))).toNat : Int)) (hl : (x0 (ix1 (0 : Fin 1))).toNat = l.val) :
    val_main_v21 (F := Ideal) x0 x1 x2 x3 = out l x1 x2 x3 := by
  funext i
  rw [val_main_v21_apply]
  refine (val_main_v20_apply x0 x1 x2 x3 i).trans ?_
  unfold out
  refine Finset.sum_congr rfl fun k _ => congrArg₂ (· * ·) ?_ ?_
  · exact (Norm.reference x1 x2 _).trans (congrArg _ (Layer.ext2 rfl rfl))
  · rw [val_main_v19_apply]
    unfold val_main_v18
    rw [show InprojRefIdeal.Read.idx_main_v19 (ridx_main_v20 i k) = ix3 (0 : Fin 1) k (i 1) from Layer.ext3 rfl
      (by have h0 := k.isLt; have h1 : (i 1).val < 13312 := (i 1).isLt; show (k.val * 13312 + (i 1).val) / 13312 % 2048 = k.val; omega)
      (by have h0 := k.isLt; have h1 : (i 1).val < 13312 := (i 1).isLt; show (k.val * 13312 + (i 1).val) % 13312 = (i 1).val; omega)]
    refine Layer.gather_layer _ x3 _ l ?_ 0 k (i 1)
    rw [val_main_v17_apply, val_main_v16_apply, val_main_v13_apply, val_main_v12_apply, val_main_c_apply,
      show idx_main_v17 (ix2 0 0) = ix1 (0 : Fin 1) from Layer.one_eq _ _, Layer.wrap_of_nonneg _ _ h, h, hl]

end Reference

/-- From memories with the same arguments both programs end with the same result. -/
theorem algebraic : Cert.algebraic_InprojIdeal_InprojRefIdeal := by
  intro m g m' g' hp hm
  obtain ⟨hl, ht⟩ := bounds m hp
  refine ⟨fun c => out ⟨(layer m).toNat, hl⟩ (m ((c : Thread nD τ).loc main_arg1)) (m ((c : Thread nD τ).loc main_arg2)) (m ((c : Thread nD τ).loc main_arg3)), run m g (ok m hl) hl, ?_⟩
  refine (θ_run _ _ _).mono (fun r h c => ?_) (Cert.InprojRefIdeal.Value.run m' g')
  obtain ⟨e0, e1, e2, e3⟩ := hm c
  obtain rfl : c = 0 := Subsingleton.elim _ _
  refine ⟨(h 0).1.trans ?_, (h 0).2⟩
  rw [InprojRefIdeal.Read.val_main_v21_eq]
  rw [e0, e1, e2, e3]
  exact reference _ _ _ _ _ ht rfl

end Cert.Proof.Inproj

end
-- ==== Proof.MergeTables.lean ====
/- The merge of the branches's prefetched layer number: which block of the stacked weights a point of the grid reads, that it lies inside the
   stack when the number is below 4, and with that the frames of the program and of its ideal. -/
module

public import proofs.«01_k».proof.Defs
public import proofs.«01_k».proof.Proof.Gen.Merge.Frame
public import proofs.«01_k».proof.Proof.Gen.MergeIdeal.Frame
public import proofs.«01_k».proof.Proof.Gen.Pre_merge_layer
public import proofs.«01_k».proof.Proof.Layer
public import Idealize.ShloMosaic.Lib.Pipeline.Value

@[expose] public section

noncomputable section

namespace Cert.Proof.Tables.Merge

open Cert.Merge Cert.Merge.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 4. -/
theorem transform_4 (i : grid0.Coords) : cc0_transform_4 inb_S1_S1_0 numel1_S1 (tbl m) i = ![(layer m).toNat, 0, (i 1).val] := by
  have hi : (i 1).val < 2 := (i 1).isLt
  unfold cc0_transform_4
  simp only []
  rw [word]
  funext a
  match a with
  | ⟨0, _⟩ => rfl
  | ⟨1, _⟩ => rfl
  | ⟨2, _⟩ => show (BitVec.ofNat 32 (i 1).val).toNat = _; simp; omega

/-- The block of the weights that a point reads through window 5. -/
theorem transform_5 (i : grid0.Coords) : cc0_transform_5 inb_S1_S1_0 numel1_S1 (tbl m) i = ![(layer m).toNat, 0, (i 1).val] := by
  have hi : (i 1).val < 2 := (i 1).isLt
  unfold cc0_transform_5
  simp only []
  rw [word]
  funext a
  match a with
  | ⟨0, _⟩ => rfl
  | ⟨1, _⟩ => rfl
  | ⟨2, _⟩ => show (BitVec.ofNat 32 (i 1).val).toNat = _; simp; omega

/-- The block of the weights that a point reads through window 6. -/
theorem transform_6 (i : grid0.Coords) : cc0_transform_6 inb_S1_S1_0 numel1_S1 (tbl m) i = ![(layer m).toNat, 0, (i 1).val] := by
  have hi : (i 1).val < 2 := (i 1).isLt
  unfold cc0_transform_6
  simp only []
  rw [word]
  funext a
  match a with
  | ⟨0, _⟩ => rfl
  | ⟨1, _⟩ => rfl
  | ⟨2, _⟩ => show (BitVec.ofNat 32 (i 1).val).toNat = _; simp; omega

/-- The block of the weights that a point reads through window 7. -/
theorem transform_7 (i : grid0.Coords) : cc0_transform_7 inb_S1_S1_0 numel1_S1 (tbl m) i = ![(layer m).toNat, 0, (i 1).val] := by
  have hi : (i 1).val < 2 := (i 1).isLt
  unfold cc0_transform_7
  simp only []
  rw [word]
  funext a
  match a with
  | ⟨0, _⟩ => rfl
  | ⟨1, _⟩ => rfl
  | ⟨2, _⟩ => show (BitVec.ofNat 32 (i 1).val).toNat = _; simp; omega

/-- With the layer number below 4 every block of the weights lies inside the stack. -/
theorem ok (h : (layer m).toNat < 4) : Ok m := by
  refine ⟨fun i => ?_, fun i => ?_, fun i => ?_, fun i => ?_⟩
  · have hi : (i 1).val < 2 := (i 1).isLt
    have hb : ∀ a, (cc0_transform_4 inb_S1_S1_0 numel1_S1 (tbl m) i a + 1) * S1x512x1024.size a ≤ S4x512x2048.size a := by
      rw [transform_4]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_5 inb_S1_S1_0 numel1_S1 (tbl m) i a + 1) * S1x512x1024.size a ≤ S4x512x2048.size a := by
      rw [transform_5]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_6 inb_S1_S1_0 numel1_S1 (tbl m) i a + 1) * S1x512x1024.size a ≤ S4x512x2048.size a := by
      rw [transform_6]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_7 inb_S1_S1_0 numel1_S1 (tbl m) i a + 1) * S1x512x1024.size a ≤ S4x512x2048.size a := by
      rw [transform_7]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩

end

/-- The layer number's bounds, from the precondition. -/
theorem bounds (m : (ℓ : Loc nD τ sig) → Buf (Elt Bits) ℓ) (h : Cert.Pre_Merge m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_Merge := fun m ρ h => frame m ρ (ok m (bounds m h).1)

end Cert.Proof.Tables.Merge

namespace Cert.Proof.Tables.MergeIdeal

open Cert.MergeIdeal Cert.MergeIdeal.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 4. -/
theorem transform_4 (i : grid0.Coords) : cc0_transform_4 inb_S1_S1_0 numel1_S1 (tbl m) i = ![(layer m).toNat, 0, (i 1).val] := by
  have hi : (i 1).val < 2 := (i 1).isLt
  unfold cc0_transform_4
  simp only []
  rw [word]
  funext a
  match a with
  | ⟨0, _⟩ => rfl
  | ⟨1, _⟩ => rfl
  | ⟨2, _⟩ => show (BitVec.ofNat 32 (i 1).val).toNat = _; simp; omega

/-- The block of the weights that a point reads through window 5. -/
theorem transform_5 (i : grid0.Coords) : cc0_transform_5 inb_S1_S1_0 numel1_S1 (tbl m) i = ![(layer m).toNat, 0, (i 1).val] := by
  have hi : (i 1).val < 2 := (i 1).isLt
  unfold cc0_transform_5
  simp only []
  rw [word]
  funext a
  match a with
  | ⟨0, _⟩ => rfl
  | ⟨1, _⟩ => rfl
  | ⟨2, _⟩ => show (BitVec.ofNat 32 (i 1).val).toNat = _; simp; omega

/-- The block of the weights that a point reads through window 6. -/
theorem transform_6 (i : grid0.Coords) : cc0_transform_6 inb_S1_S1_0 numel1_S1 (tbl m) i = ![(layer m).toNat, 0, (i 1).val] := by
  have hi : (i 1).val < 2 := (i 1).isLt
  unfold cc0_transform_6
  simp only []
  rw [word]
  funext a
  match a with
  | ⟨0, _⟩ => rfl
  | ⟨1, _⟩ => rfl
  | ⟨2, _⟩ => show (BitVec.ofNat 32 (i 1).val).toNat = _; simp; omega

/-- The block of the weights that a point reads through window 7. -/
theorem transform_7 (i : grid0.Coords) : cc0_transform_7 inb_S1_S1_0 numel1_S1 (tbl m) i = ![(layer m).toNat, 0, (i 1).val] := by
  have hi : (i 1).val < 2 := (i 1).isLt
  unfold cc0_transform_7
  simp only []
  rw [word]
  funext a
  match a with
  | ⟨0, _⟩ => rfl
  | ⟨1, _⟩ => rfl
  | ⟨2, _⟩ => show (BitVec.ofNat 32 (i 1).val).toNat = _; simp; omega

/-- With the layer number below 4 every block of the weights lies inside the stack. -/
theorem ok (h : (layer m).toNat < 4) : Ok m := by
  refine ⟨fun i => ?_, fun i => ?_, fun i => ?_, fun i => ?_⟩
  · have hi : (i 1).val < 2 := (i 1).isLt
    have hb : ∀ a, (cc0_transform_4 inb_S1_S1_0 numel1_S1 (tbl m) i a + 1) * S1x512x1024.size a ≤ S4x512x2048.size a := by
      rw [transform_4]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_5 inb_S1_S1_0 numel1_S1 (tbl m) i a + 1) * S1x512x1024.size a ≤ S4x512x2048.size a := by
      rw [transform_5]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_6 inb_S1_S1_0 numel1_S1 (tbl m) i a + 1) * S1x512x1024.size a ≤ S4x512x2048.size a := by
      rw [transform_6]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩
  · have hi : (i 1).val < 2 := (i 1).isLt
    have hb : ∀ a, (cc0_transform_7 inb_S1_S1_0 numel1_S1 (tbl m) i a + 1) * S1x512x1024.size a ≤ S4x512x2048.size a := by
      rw [transform_7]
      intro a
      match a with
      | ⟨0, _⟩ => show ((layer m).toNat + 1) * 1 ≤ 4; omega
      | ⟨1, _⟩ => show (0 + 1) * 512 ≤ 512; omega
      | ⟨2, _⟩ => show ((i 1).val + 1) * 1024 ≤ 2048; omega
    exact ⟨hb, .inr (Affine.block_words_dvd (of_decide_eq_true rfl) (by decide))⟩

end

/-- The layer number's bounds, from the precondition. -/
theorem bounds (m : (ℓ : Loc nD τ sig) → Buf (Elt Ideal) ℓ) (h : Cert.Pre_MergeIdeal m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_MergeIdeal := fun m ρ h => frame m ρ (ok m (bounds m h).1)

end Cert.Proof.Tables.MergeIdeal

end
-- ==== Proof.Gate.lean ====
/- The gate in two forms: half of a hyperbolic tangent plus a half is the logistic function, of every extended real. -/
module

public import Idealize.ShloMosaic.PureOps.Ideal
import Mathlib.Analysis.SpecialFunctions.Trigonometric.DerivHyp

@[expose] public section

noncomputable section

namespace Cert.Gate

open Idealize.ShloMosaic

/-- The word of one half is one half. -/
theorem half : Ideal.ofBits .f32 0x3F000000#32 = ((1 / 2 : ℝ) : EReal) := by
  simp [Ideal.ofBits, Ideal.ieee, -EReal.coe_mul]; norm_num

/-- The word of one is one. -/
theorem one : Ideal.ofBits .f32 0x3F800000#32 = ((1 : ℝ) : EReal) := by
  simp [Ideal.ofBits, Ideal.ieee, -EReal.coe_mul]; norm_num

/-- Over the reals: both are `1 / (1 + exp (-r))`. -/
theorem real (r : ℝ) : 1 / 2 * Real.tanh (1 / 2 * r) + 1 / 2 = 1 * (1 + Real.exp (-r))⁻¹ := by
  have e : Real.exp (-r) = Real.exp (-(1 / 2 * r)) * Real.exp (-(1 / 2 * r)) := by rw [← Real.exp_add]; congr 1; ring
  have p := Real.exp_pos (1 / 2 * r)
  have q := Real.exp_pos (-(1 / 2 * r))
  have pq : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have : a + b ≠ 0 := by positivity
  have : 1 + b * b ≠ 0 := by positivity
  field_simp
  linear_combination (2 * b) * pq

/-- The kernel's gate is the reference's. -/
theorem gate (g : EReal) : Ideal.ofBits .f32 0x3F000000#32 * Ideal.tanh (Ideal.ofBits .f32 0x3F000000#32 * g) + Ideal.ofBits .f32 0x3F000000#32
    = Ideal.div (Ideal.ofBits .f32 0x3F800000#32) (Ideal.ofBits .f32 0x3F800000#32 + Ideal.exp (-g)) := by
  rw [half, one]
  induction g with
  | bot =>
    rw [EReal.coe_mul_bot_of_pos (by norm_num), EReal.neg_bot]
    show ((1 / 2 : ℝ) : EReal) * ((-1 : ℝ) : EReal) + _ = Ideal.div _ (_ + ⊤)
    rw [EReal.coe_add_top]
    unfold Ideal.div
    rw [if_neg EReal.top_ne_zero, EReal.inv_top, mul_zero, ← EReal.coe_mul, ← EReal.coe_add]
    norm_num
  | top =>
    rw [EReal.coe_mul_top_of_pos (by norm_num), EReal.neg_top]
    show ((1 / 2 : ℝ) : EReal) * ((1 : ℝ) : EReal) + _ = Ideal.div _ (_ + 0)
    unfold Ideal.div
    rw [add_zero, if_neg (by simp), ← EReal.coe_mul, ← EReal.coe_add]
    norm_num
  | coe r =>
    rw [← EReal.coe_mul, ← EReal.coe_neg]
    show ((1 / 2 : ℝ) : EReal) * ((Real.tanh (1 / 2 * r) : ℝ) : EReal) + _ = Ideal.div _ (_ + ((Real.exp (-r) : ℝ) : EReal))
    have p := Real.exp_pos (-r)
    unfold Ideal.div
    rw [← EReal.coe_add, if_neg (by rw [← EReal.coe_zero, EReal.coe_eq_coe_iff]; positivity), ← EReal.coe_inv, ← EReal.coe_mul, ← EReal.coe_mul,
      ← EReal.coe_add, real]

end Cert.Gate

end
-- ==== Proof.Merge.lean ====
/- The merge of the branches: what the kernel leaves and what its reference leaves are the same array, the sum of the four branches'
   products with their weights, each multiplied by its gate. -/
module

public import proofs.«01_k».proof.Proof.MergeTables
public import proofs.«01_k».proof.Proof.Gen.MergeRefIdeal.Run
public import proofs.«01_k».proof.Proof.Gen.MergeRefIdeal.Read
public import proofs.«01_k».proof.Proof.Gate
public import Idealize.ShloMosaic.Lib.Pipeline.ValueKit
import Idealize.ShloMosaic.Lib.Pointwise

@[expose] public section

noncomputable section

namespace Cert.Proof.Merge

open Cert.MergeIdeal Cert.MergeIdeal.Gen Cert.Proof.Tables.MergeIdeal
open Idealize.ShloMosaic Idealize.ShloMosaic.TcCoe Idealize.SL.Sem

/-- The gate of a value: one over one plus the exponential of its negative. -/
def gate (g : EReal) : EReal :=
  Ideal.div (Ideal.ofBits .f32 0x3F800000#32) (Ideal.ofBits .f32 0x3F800000#32 + Ideal.exp (-g))

/-- Gate column `n` blocks of 2048 after column 5120 of the projection. -/
def col (n : Fin 4) (j : Fin 2048) : Fin 13312 := ⟨5120 + (n.val * 2048 + j.val), by have := n.isLt; have := j.isLt; omega⟩

/-- One branch's share: its gate times the product of its values with layer `l` of its weights. -/
def share (l : Fin 4) (n : Fin 4) (p : S32768x512.Idx → EReal) (w : S4x512x2048.Idx → EReal) (z : S32768x13312.Idx → EReal) (i : S32768x2048.Idx) : EReal :=
  gate (z (ix2 (i 0) (col n (i 1)))) * ∑ k : Fin 512, p (ix2 (i 0) k) * w (ix3 l k (i 1))

/-- What both programs compute. -/
def out (l : Fin 4) (pa pb pc pd : S32768x512.Idx → EReal) (wa wb wc wd : S4x512x2048.Idx → EReal) (z : S32768x13312.Idx → EReal) : S32768x2048.Idx → EReal :=
  fun i => share l 0 pa wa z i + share l 1 pb wb z i + share l 2 pc wc z i + share l 3 pd wd z i

/-- The product of one branch's block with its weights' block, at an index. -/
def dot (p : S1024x512.Idx → EReal) (w : S1x512x1024.Idx → EReal) (j : S1024x1024.Idx) : EReal :=
  ∑ k : Fin 512, p (ix2 (j 0) k) * w (ix3 (0 : Fin 1) k (j 1))

/-- What a point leaves in its block of the result is the body's payload. -/
theorem stored (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole)
    (x0 x1 x2 x3 : Vec Ideal S1024x512 .bf16) (x4 x5 x6 x7 : Vec Ideal S1x512x1024 .bf16) (x8 x9 x10 x11 : Vec Ideal S1024x1024 .bf16) (l : TbBuf0 (F := Ideal) c tbM0_0) :
    out0_A_12 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 l
      = k0_pay1 (k0_pay2 x8 x0 x4 x9 x1 x5) (k0_pay3 x10) x2 x6 x11 x3 x7 := by
  frame_out

/-- What the body stores, at an index. -/
theorem pay (x0 x1 x2 x3 : Vec Ideal S1024x512 .bf16) (x4 x5 x6 x7 : Vec Ideal S1x512x1024 .bf16) (x8 x9 x10 x11 : Vec Ideal S1024x1024 .bf16) (j : S1024x1024.Idx) :
    k0_pay1 (k0_pay2 x8 x0 x4 x9 x1 x5) (k0_pay3 x10) x2 x6 x11 x3 x7 j
      = gate (x8 j) * dot x0 x4 j + gate (x9 j) * dot x1 x5 j + gate (x10 j) * dot x2 x6 j + gate (x11 j) * dot x3 x7 j := by
  unfold gate
  rw [← Gate.gate, ← Gate.gate, ← Gate.gate, ← Gate.gate]
  unfold k0_pay1 k0_pay2 k0_pay3 dot
  pointwise

section Kernel

variable (m : (ℓ : Loc nD τ sig) → Buf (Elt Ideal) ℓ) (ρ : Dev nD → PrngReg) (hO : Ok m) (hl : (layer m).toNat < 4)

/-- Branch 0's weights as the launch finds them: the format change before the call changes nothing here. -/
theorem V_main_v0 (c : Dev nD) : V m c main_v0 = m ((c : Thread nD τ).loc main_arg5) := by
  show StableHlo.after hostOps0 (fun b => m (c, b)) main_v0 = _
  unfold hostOps0
  after_results <;> rfl

/-- Branch 1's weights as the launch finds them: the format change before the call changes nothing here. -/
theorem V_main_v1 (c : Dev nD) : V m c main_v1 = m ((c : Thread nD τ).loc main_arg6) := by
  show StableHlo.after hostOps0 (fun b => m (c, b)) main_v1 = _
  unfold hostOps0
  after_results <;> rfl

/-- Branch 2's weights as the launch finds them: the format change before the call changes nothing here. -/
theorem V_main_v2 (c : Dev nD) : V m c main_v2 = m ((c : Thread nD τ).loc main_arg7) := by
  show StableHlo.after hostOps0 (fun b => m (c, b)) main_v2 = _
  unfold hostOps0
  after_results <;> rfl

/-- Branch 3's weights as the launch finds them: the format change before the call changes nothing here. -/
theorem V_main_v3 (c : Dev nD) : V m c main_v3 = m ((c : Thread nD τ).loc main_arg8) := by
  show StableHlo.after hostOps0 (fun b => m (c, b)) main_v3 = _
  unfold hostOps0
  after_results <;> rfl

/-- Every block of the result is some point's. -/
theorem onto : ∀ (b0 : Fin 32) (b1 : Fin 2), ∃ t : Fin grid0.N, cc0_transform_12 (grid0.coords t) = ![b0.val, b1.val] := by
  decide +kernel

/-- The blocks written back cover the result. -/
theorem covers : ((cfgM m hO).win 12).Covers :=
  ⟨fun a => by match a with
    | ⟨0, _⟩ => exact (by decide : 0 < 1024)
    | ⟨1, _⟩ => exact (by decide : 0 < 1024), fun β => by
    obtain ⟨t, ht⟩ := onto ⟨(β (0 : Fin 2)).val, lt_of_lt_of_eq (β (0 : Fin 2)).isLt (show (32768 + 1024 - 1) / 1024 = 32 by decide)⟩
      ⟨(β (1 : Fin 2)).val, lt_of_lt_of_eq (β (1 : Fin 2)).isLt (show (2048 + 1024 - 1) / 1024 = 2 by decide)⟩
    refine ⟨t, flush0_12 _ t, fun a => ⟨?_, .inl rfl⟩⟩
    show cc0_transform_12 (grid0.coords t) a = _
    rw [ht]
    match a with
    | ⟨0, _⟩ => rfl
    | ⟨1, _⟩ => rfl⟩

/-- The grid's coordinates as numbers of blocks. -/
theorem coord0 (t : Fin grid0.N) : (BitVec.ofNat 32 (grid0.coords t 0).val).toNat = (grid0.coords t 0).val := by
  have : (grid0.coords t 0).val < 32 := (grid0.coords t 0).isLt
  simp; omega

theorem coord1 (t : Fin grid0.N) : (BitVec.ofNat 32 (grid0.coords t 1).val).toNat = (grid0.coords t 1).val := by
  have : (grid0.coords t 1).val < 2 := (grid0.coords t 1).isLt
  simp; omega

/-- A gate block's column: a constant number of blocks after the point's own. -/
theorem coord1_add (t : Fin grid0.N) (n : Nat) (h : n < 100) :
    (BitVec.ofNat 32 n + BitVec.ofNat 32 (grid0.coords t 1).val).toNat = n + (grid0.coords t 1).val := by
  have : (grid0.coords t 1).val < 2 := (grid0.coords t 1).isLt
  simp; omega

/-- Branch 0's block at a point. -/
theorem blk_p0 (c : Dev nD) (t : Fin grid0.N) (j : S1024x512.Idx) (i : S32768x512.Idx)
    (h0 : (i 0).val = (grid0.coords t 0).val * 1024 + (j 0).val) (h1 : (i 1).val = (j 1).val) :
    iblk m hO c 0 t j = m ((c : Thread nD τ).loc main_arg1) i := by
  refine (congrArg (V m c main_arg1) (?_ : _ = i)).trans (congrFun (V_main_arg1 m c) i)
  refine Layer.ext2 ?_ ?_
  · rw [h0, ← coord0]; exact congrArg (_ + ·) (Nat.one_mul _)
  · rw [h1]; show 0 * 512 + 1 * (j 1).val = _; omega

/-- Branch 0's weights' block at a point. -/
theorem blk_w0 (c : Dev nD) (t : Fin grid0.N) (j : S1x512x1024.Idx) (i : S4x512x2048.Idx)
    (h0 : (i 0).val = (layer m).toNat) (h1 : (i 1).val = (j 1).val) (h2 : (i 2).val = (grid0.coords t 1).val * 1024 + (j 2).val) :
    iblk m hO c 4 t j = m ((c : Thread nD τ).loc main_arg5) i := by
  have hj : (j 0).val = 0 := Nat.lt_one_iff.mp (j 0).isLt
  have e := transform_4 m (grid0.coords t)
  refine (congrArg (V m c main_v0) (?_ : _ = i)).trans (congrFun (V_main_v0 m c) i)
  refine Layer.ext3 ?_ ?_ ?_
  · rw [h0]; show cc0_transform_4 inb_S1_S1_0 numel1_S1 (tbl m) (grid0.coords t) 0 * 1 + 1 * (j 0).val = _
    rw [e, hj]; show (layer m).toNat * 1 + 1 * 0 = _; omega
  · rw [h1]; show cc0_transform_4 inb_S1_S1_0 numel1_S1 (tbl m) (grid0.coords t) 1 * 512 + 1 * (j 1).val = _
    rw [e]; show 0 * 512 + 1 * (j 1).val = _; omega
  · rw [h2]; show cc0_transform_4 inb_S1_S1_0 numel1_S1 (tbl m) (grid0.coords t) 2 * 1024 + 1 * (j 2).val = _
    rw [e]; show (grid0.coords t 1).val * 1024 + 1 * (j 2).val = _; omega

/-- Branch 0's gates' block at a point. -/
theorem blk_g0 (c : Dev nD) (t : Fin grid0.N) (j : S1024x1024.Idx) (i : S32768x13312.Idx)
    (h0 : (i 0).val = (grid0.coords t 0).val * 1024 + (j 0).val) (h1 : (i 1).val = 5120 + (0 * 2048 + ((grid0.coords t 1).val * 1024 + (j 1).val))) :
    iblk m hO c 8 t j = m ((c : Thread nD τ).loc main_arg9) i := by
  have e := coord1_add t 5 (by decide)
  refine (congrArg (V m c main_arg9) (?_ : _ = i)).trans (congrFun (V_main_arg9 m c) i)
  refine Layer.ext2 ?_ ?_
  · rw [h0, ← coord0]; exact congrArg (_ + ·) (Nat.one_mul _)
  · rw [h1]; show (5#32 + BitVec.ofNat 32 (grid0.coords t 1).val).toNat * 1024 + 1 * (j 1).val = _
    rw [e]; omega

/-- Branch 1's block at a point. -/
theorem blk_p1 (c : Dev nD) (t : Fin grid0.N) (j : S1024x512.Idx) (i : S32768x512.Idx)
    (h0 : (i 0).val = (grid0.coords t 0).val * 1024 + (j 0).val) (h1 : (i 1).val = (j 1).val) :
    iblk m hO c 1 t j = m ((c : Thread nD τ).loc main_arg2) i := by
  refine (congrArg (V m c main_arg2) (?_ : _ = i)).trans (congrFun (V_main_arg2 m c) i)
  refine Layer.ext2 ?_ ?_
  · rw [h0, ← coord0]; exact congrArg (_ + ·) (Nat.one_mul _)
  · rw [h1]; show 0 * 512 + 1 * (j 1).val = _; omega

/-- Branch 1's weights' block at a point. -/
theorem blk_w1 (c : Dev nD) (t : Fin grid0.N) (j : S1x512x1024.Idx) (i : S4x512x2048.Idx)
    (h0 : (i 0).val = (layer m).toNat) (h1 : (i 1).val = (j 1).val) (h2 : (i 2).val = (grid0.coords t 1).val * 1024 + (j 2).val) :
    iblk m hO c 5 t j = m ((c : Thread nD τ).loc main_arg6) i := by
  have hj : (j 0).val = 0 := Nat.lt_one_iff.mp (j 0).isLt
  have e := transform_5 m (grid0.coords t)
  refine (congrArg (V m c main_v1) (?_ : _ = i)).trans (congrFun (V_main_v1 m c) i)
  refine Layer.ext3 ?_ ?_ ?_
  · rw [h0]; show cc0_transform_5 inb_S1_S1_0 numel1_S1 (tbl m) (grid0.coords t) 0 * 1 + 1 * (j 0).val = _
    rw [e, hj]; show (layer m).toNat * 1 + 1 * 0 = _; omega
  · rw [h1]; show cc0_transform_5 inb_S1_S1_0 numel1_S1 (tbl m) (grid0.coords t) 1 * 512 + 1 * (j 1).val = _
    rw [e]; show 0 * 512 + 1 * (j 1).val = _; omega
  · rw [h2]; show cc0_transform_5 inb_S1_S1_0 numel1_S1 (tbl m) (grid0.coords t) 2 * 1024 + 1 * (j 2).val = _
    rw [e]; show (grid0.coords t 1).val * 1024 + 1 * (j 2).val = _; omega

/-- Branch 1's gates' block at a point. -/
theorem blk_g1 (c : Dev nD) (t : Fin grid0.N) (j : S1024x1024.Idx) (i : S32768x13312.Idx)
    (h0 : (i 0).val = (grid0.coords t 0).val * 1024 + (j 0).val) (h1 : (i 1).val = 5120 + (1 * 2048 + ((grid0.coords t 1).val * 1024 + (j 1).val))) :
    iblk m hO c 9 t j = m ((c : Thread nD τ).loc main_arg9) i := by
  have e := coord1_add t 7 (by decide)
  refine (congrArg (V m c main_arg9) (?_ : _ = i)).trans (congrFun (V_main_arg9 m c) i)
  refine Layer.ext2 ?_ ?_
  · rw [h0, ← coord0]; exact congrArg (_ + ·) (Nat.one_mul _)
  · rw [h1]; show (7#32 + BitVec.ofNat 32 (grid0.coords t 1).val).toNat * 1024 + 1 * (j 1).val = _
    rw [e]; omega

/-- Branch 2's block at a point. -/
theorem blk_p2 (c : Dev nD) (t : Fin grid0.N) (j : S1024x512.Idx) (i : S32768x512.Idx)
    (h0 : (i 0).val = (grid0.coords t 0).val * 1024 + (j 0).val) (h1 : (i 1).val = (j 1).val) :
    iblk m hO c 2 t j = m ((c : Thread nD τ).loc main_arg3) i := by
  refine (congrArg (V m c main_arg3) (?_ : _ = i)).trans (congrFun (V_main_arg3 m c) i)
  refine Layer.ext2 ?_ ?_
  · rw [h0, ← coord0]; exact congrArg (_ + ·) (Nat.one_mul _)
  · rw [h1]; show 0 * 512 + 1 * (j 1).val = _; omega

/-- Branch 2's weights' block at a point. -/
theorem blk_w2 (c : Dev nD) (t : Fin grid0.N) (j : S1x512x1024.Idx) (i : S4x512x2048.Idx)
    (h0 : (i 0).val = (layer m).toNat) (h1 : (i 1).val = (j 1).val) (h2 : (i 2).val = (grid0.coords t 1).val * 1024 + (j 2).val) :
    iblk m hO c 6 t j = m ((c : Thread nD τ).loc main_arg7) i := by
  have hj : (j 0).val = 0 := Nat.lt_one_iff.mp (j 0).isLt
  have e := transform_6 m (grid0.coords t)
  refine (congrArg (V m c main_v2) (?_ : _ = i)).trans (congrFun (V_main_v2 m c) i)
  refine Layer.ext3 ?_ ?_ ?_
  · rw [h0]; show cc0_transform_6 inb_S1_S1_0 numel1_S1 (tbl m) (grid0.coords t) 0 * 1 + 1 * (j 0).val = _
    rw [e, hj]; show (layer m).toNat * 1 + 1 * 0 = _; omega
  · rw [h1]; show cc0_transform_6 inb_S1_S1_0 numel1_S1 (tbl m) (grid0.coords t) 1 * 512 + 1 * (j 1).val = _
    rw [e]; show 0 * 512 + 1 * (j 1).val = _; omega
  · rw [h2]; show cc0_transform_6 inb_S1_S1_0 numel1_S1 (tbl m) (grid0.coords t) 2 * 1024 + 1 * (j 2).val = _
    rw [e]; show (grid0.coords t 1).val * 1024 + 1 * (j 2).val = _; omega

/-- Branch 2's gates' block at a point. -/
theorem blk_g2 (c : Dev nD) (t : Fin grid0.N) (j : S1024x1024.Idx) (i : S32768x13312.Idx)
    (h0 : (i 0).val = (grid0.coords t 0).val * 1024 + (j 0).val) (h1 : (i 1).val = 5120 + (2 * 2048 + ((grid0.coords t 1).val * 1024 + (j 1).val))) :
    iblk m hO c 10 t j = m ((c : Thread nD τ).loc main_arg9) i := by
  have e := coord1_add t 9 (by decide)
  refine (congrArg (V m c main_arg9) (?_ : _ = i)).trans (congrFun (V_main_arg9 m c) i)
  refine Layer.ext2 ?_ ?_
  · rw [h0, ← coord0]; exact congrArg (_ + ·) (Nat.one_mul _)
  · rw [h1]; show (9#32 + BitVec.ofNat 32 (grid0.coords t 1).val).toNat * 1024 + 1 * (j 1).val = _
    rw [e]; omega

/-- Branch 3's block at a point. -/
theorem blk_p3 (c : Dev nD) (t : Fin grid0.N) (j : S1024x512.Idx) (i : S32768x512.Idx)
    (h0 : (i 0).val = (grid0.coords t 0).val * 1024 + (j 0).val) (h1 : (i 1).val = (j 1).val) :
    iblk m hO c 3 t j = m ((c : Thread nD τ).loc main_arg4) i := by
  refine (congrArg (V m c main_arg4) (?_ : _ = i)).trans (congrFun (V_main_arg4 m c) i)
  refine Layer.ext2 ?_ ?_
  · rw [h0, ← coord0]; exact congrArg (_ + ·) (Nat.one_mul _)
  · rw [h1]; show 0 * 512 + 1 * (j 1).val = _; omega

/-- Branch 3's weights' block at a point. -/
theorem blk_w3 (c : Dev nD) (t : Fin grid0.N) (j : S1x512x1024.Idx) (i : S4x512x2048.Idx)
    (h0 : (i 0).val = (layer m).toNat) (h1 : (i 1).val = (j 1).val) (h2 : (i 2).val = (grid0.coords t 1).val * 1024 + (j 2).val) :
    iblk m hO c 7 t j = m ((c : Thread nD τ).loc main_arg8) i := by
  have hj : (j 0).val = 0 := Nat.lt_one_iff.mp (j 0).isLt
  have e := transform_7 m (grid0.coords t)
  refine (congrArg (V m c main_v3) (?_ : _ = i)).trans (congrFun (V_main_v3 m c) i)
  refine Layer.ext3 ?_ ?_ ?_
  · rw [h0]; show cc0_transform_7 inb_S1_S1_0 numel1_S1 (tbl m) (grid0.coords t) 0 * 1 + 1 * (j 0).val = _
    rw [e, hj]; show (layer m).toNat * 1 + 1 * 0 = _; omega
  · rw [h1]; show cc0_transform_7 inb_S1_S1_0 numel1_S1 (tbl m) (grid0.coords t) 1 * 512 + 1 * (j 1).val = _
    rw [e]; show 0 * 512 + 1 * (j 1).val = _; omega
  · rw [h2]; show cc0_transform_7 inb_S1_S1_0 numel1_S1 (tbl m) (grid0.coords t) 2 * 1024 + 1 * (j 2).val = _
    rw [e]; show (grid0.coords t 1).val * 1024 + 1 * (j 2).val = _; omega

/-- Branch 3's gates' block at a point. -/
theorem blk_g3 (c : Dev nD) (t : Fin grid0.N) (j : S1024x1024.Idx) (i : S32768x13312.Idx)
    (h0 : (i 0).val = (grid0.coords t 0).val * 1024 + (j 0).val) (h1 : (i 1).val = 5120 + (3 * 2048 + ((grid0.coords t 1).val * 1024 + (j 1).val))) :
    iblk m hO c 11 t j = m ((c : Thread nD τ).loc main_arg9) i := by
  have e := coord1_add t 11 (by decide)
  refine (congrArg (V m c main_arg9) (?_ : _ = i)).trans (congrFun (V_main_arg9 m c) i)
  refine Layer.ext2 ?_ ?_
  · rw [h0, ← coord0]; exact congrArg (_ + ·) (Nat.one_mul _)
  · rw [h1]; show (11#32 + BitVec.ofNat 32 (grid0.coords t 1).val).toNat * 1024 + 1 * (j 1).val = _
    rw [e]; omega

/-- One branch's share at a point, from its three blocks. -/
theorem share_of (l : Fin 4) (n : Fin 4) (p : S32768x512.Idx → EReal) (w : S4x512x2048.Idx → EReal) (z : S32768x13312.Idx → EReal) (i : S32768x2048.Idx) (j : S1024x1024.Idx)
    (bp : S1024x512.Idx → EReal) (bw : S1x512x1024.Idx → EReal) (bg : S1024x1024.Idx → EReal)
    (hp : ∀ k : Fin 512, bp (ix2 (j 0) k) = p (ix2 (i 0) k)) (hw : ∀ k : Fin 512, bw (ix3 (0 : Fin 1) k (j 1)) = w (ix3 l k (i 1)))
    (hg : bg j = z (ix2 (i 0) (col n (i 1)))) : gate (bg j) * dot bp bw j = share l n p w z i := by
  unfold share dot
  rw [hg]
  exact congrArg (_ * ·) (Finset.sum_congr rfl fun k _ => congrArg₂ (· * ·) (hp k) (hw k))

/-- What a point leaves in its block, at an index. -/
theorem point (c : Dev nD) (t : Fin grid0.N) (y : S1024x1024.Idx) (i : S32768x2048.Idx)
    (h0 : (i 0).val = (grid0.coords t 0).val * 1024 + (y 0).val) (h1 : (i 1).val = (grid0.coords t 1).val * 1024 + (y 1).val) :
    outsAt0 m hO c t y
      = out ⟨(layer m).toNat, hl⟩ (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i := by
  unfold outsAt0
  refine (congrFun (stored c _ _ _ _ _ _ _ _ _ _ _ _ _ _ _ _ _ _ _ _ _ _ _ _ _ _ _ _ _ _ _ _ _ _ _ _ _ _ _ _) y).trans ((pay _ _ _ _ _ _ _ _ _ _ _ _ y).trans ?_)
  unfold out
  refine congrArg₂ (· + ·) (congrArg₂ (· + ·) (congrArg₂ (· + ·) ?_ ?_) ?_) ?_
  · exact share_of _ 0 _ _ _ i y _ _ _ (fun k => blk_p0 m hO c t _ _ h0 rfl) (fun k => blk_w0 m hO c t _ _ rfl rfl h1) (blk_g0 m hO c t _ _ h0 (congrArg (fun v => 5120 + (0 * 2048 + v)) h1))
  · exact share_of _ 1 _ _ _ i y _ _ _ (fun k => blk_p1 m hO c t _ _ h0 rfl) (fun k => blk_w1 m hO c t _ _ rfl rfl h1) (blk_g1 m hO c t _ _ h0 (congrArg (fun v => 5120 + (1 * 2048 + v)) h1))
  · exact share_of _ 2 _ _ _ i y _ _ _ (fun k => blk_p2 m hO c t _ _ h0 rfl) (fun k => blk_w2 m hO c t _ _ rfl rfl h1) (blk_g2 m hO c t _ _ h0 (congrArg (fun v => 5120 + (2 * 2048 + v)) h1))
  · exact share_of _ 3 _ _ _ i y _ _ _ (fun k => blk_p3 m hO c t _ _ h0 rfl) (fun k => blk_w3 m hO c t _ _ rfl rfl h1) (blk_g3 m hO c t _ _ h0 (congrArg (fun v => 5120 + (3 * 2048 + v)) h1))

/-- Where a block of the result lies. -/
theorem emb0 (t : Fin grid0.N) (y : S1024x1024.Idx) :
    ((((cfgM m hO).win 12).blk t).view.emb y (0 : Fin 2)).val = (grid0.coords t 0).val * 1024 + (y 0).val := by
  show (BitVec.ofNat 32 (grid0.coords t 0).val).toNat * 1024 + 1 * (y 0).val = _
  rw [coord0, Nat.one_mul]

theorem emb1 (t : Fin grid0.N) (y : S1024x1024.Idx) :
    ((((cfgM m hO).win 12).blk t).view.emb y (1 : Fin 2)).val = (grid0.coords t 1).val * 1024 + (y 1).val := by
  show (BitVec.ofNat 32 (grid0.coords t 1).val).toNat * 1024 + 1 * (y 1).val = _
  rw [coord1, Nat.one_mul]

/-- The array the call leaves. -/
theorem final (c : Dev nD) : (dats m hO 0 c).arrAt 12 (cfgM m hO).N
    = out ⟨(layer m).toNat, hl⟩ (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m hO 0 c).arrAt_eq_of_covers 12 _ (covers m hO) fun t _ y =>
    (congrFun (after0_12 m hO c t) y).trans (point m hO hl c t y _ (emb0 m hO t y) (emb1 m hO t y))

include hO in
/-- The kernel's run: the result is `out` of the arguments, which end unchanged. -/
theorem run : θ_run defs (onTc (τ := τ) (main (F := Ideal))) ⟨m, fun _ => 0, ρ⟩ fun r => ∀ c : Dev nD,
      r.2.mem ((c.tc : Thread nD τ).loc main_v4) = out ⟨(layer m).toNat, hl⟩ (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.1 c).1 12).trans (final m hO hl c), h.2 c⟩)
    (θ_run_and (run_main m ρ hO) (unchanged m ρ hO))

end Kernel

/-! ## The reference -/

section Reference

open Cert.MergeRefIdeal.Read

variable (l : Fin 4) (x0 : S1.Idx → BitVec 32) (h : (x0 (ix1 (0 : Fin 1))).toInt = ((x0 (ix1 (0 : Fin 1))).toNat : Int)) (hl : (x0 (ix1 (0 : Fin 1))).toNat = l.val)

/-- A row and a column of a stack's layer, from the place in the flattened layer. -/
theorem place (k : Fin 512) (j : Fin 2048) : (k.val * 2048 + j.val) / 2048 % 512 = k.val ∧ (k.val * 2048 + j.val) % 2048 = j.val := by
  have h0 := k.isLt
  have h1 := j.isLt
  constructor <;> omega

include h hl
/-- Branch 0's share as the reference has it. -/
theorem ref_share0 (p : S32768x512.Idx → EReal) (w : S4x512x2048.Idx → EReal) (z : S32768x13312.Idx → EReal) (i : S32768x2048.Idx) :
    val_main_v70 (F := Ideal) x0 p w z i = share l 0 p w z i := by
  rw [val_main_v70_apply, val_main_v48_apply, val_main_v46_apply, val_main_v47_apply, val_main_v45_apply, val_main_cst_apply, val_main_cst_7_apply, val_main_v44_apply, val_main_v43_apply, val_main_v42_apply, val_main_v1_apply, val_main_v0_apply, val_main_v11_apply]
  unfold share
  refine congrArg₂ (· * ·) ?_ (Finset.sum_congr rfl fun k _ => congrArg₂ (· * ·) ?_ ?_)
  · exact congrArg (fun v => gate (z v)) (Layer.ext2 rfl (by show 5120 + (i 1).val = 5120 + (0 * 2048 + (i 1).val); omega))
  · rw [val_main_v2_apply]; exact congrArg p (Layer.ext2 rfl rfl)
  · rw [val_main_v10_apply]
    unfold val_main_v9
    rw [show idx_main_v10 (ridx_main_v11 i k) = ix3 (0 : Fin 1) k (i 1) from Layer.ext3 rfl (place k (i 1)).1 (place k (i 1)).2]
    refine Layer.gather_layer _ w _ l ?_ 0 k (i 1)
    rw [val_main_v8_apply, val_main_v7_apply, val_main_v4_apply, val_main_v3_apply, val_main_c_apply,
      show idx_main_v8 (ix2 0 0) = ix1 (0 : Fin 1) from Layer.one_eq _ _, Layer.wrap_of_nonneg _ _ h, h, hl]

/-- Branch 1's share as the reference has it. -/
theorem ref_share1 (p : S32768x512.Idx → EReal) (w : S4x512x2048.Idx → EReal) (z : S32768x13312.Idx → EReal) (i : S32768x2048.Idx) :
    val_main_v71 (F := Ideal) x0 p w z i = share l 1 p w z i := by
  rw [val_main_v71_apply, val_main_v55_apply, val_main_v53_apply, val_main_v54_apply, val_main_v52_apply, val_main_cst_8_apply, val_main_cst_9_apply, val_main_v51_apply, val_main_v50_apply, val_main_v49_apply, val_main_v1_apply, val_main_v0_apply, val_main_v21_apply]
  unfold share
  refine congrArg₂ (· * ·) ?_ (Finset.sum_congr rfl fun k _ => congrArg₂ (· * ·) ?_ ?_)
  · exact congrArg (fun v => gate (z v)) (Layer.ext2 rfl (by show 5120 + (2048 + (i 1).val) = 5120 + (1 * 2048 + (i 1).val); omega))
  · rw [val_main_v12_apply]; exact congrArg p (Layer.ext2 rfl rfl)
  · rw [val_main_v20_apply]
    unfold val_main_v19
    rw [show idx_main_v20 (ridx_main_v21 i k) = ix3 (0 : Fin 1) k (i 1) from Layer.ext3 rfl (place k (i 1)).1 (place k (i 1)).2]
    refine Layer.gather_layer _ w _ l ?_ 0 k (i 1)
    rw [val_main_v18_apply, val_main_v17_apply, val_main_v14_apply, val_main_v13_apply, val_main_c_1_apply,
      show idx_main_v18 (ix2 0 0) = ix1 (0 : Fin 1) from Layer.one_eq _ _, Layer.wrap_of_nonneg _ _ h, h, hl]

/-- Branch 2's share as the reference has it. -/
theorem ref_share2 (p : S32768x512.Idx → EReal) (w : S4x512x2048.Idx → EReal) (z : S32768x13312.Idx → EReal) (i : S32768x2048.Idx) :
    val_main_v73 (F := Ideal) x0 p w z i = share l 2 p w z i := by
  rw [val_main_v73_apply, val_main_v62_apply, val_main_v60_apply, val_main_v61_apply, val_main_v59_apply, val_main_cst_10_apply, val_main_cst_11_apply, val_main_v58_apply, val_main_v57_apply, val_main_v56_apply, val_main_v1_apply, val_main_v0_apply, val_main_v31_apply]
  unfold share
  refine congrArg₂ (· * ·) ?_ (Finset.sum_congr rfl fun k _ => congrArg₂ (· * ·) ?_ ?_)
  · exact congrArg (fun v => gate (z v)) (Layer.ext2 rfl (by show 5120 + (4096 + (i 1).val) = 5120 + (2 * 2048 + (i 1).val); omega))
  · rw [val_main_v22_apply]; exact congrArg p (Layer.ext2 rfl rfl)
  · rw [val_main_v30_apply]
    unfold val_main_v29
    rw [show idx_main_v30 (ridx_main_v31 i k) = ix3 (0 : Fin 1) k (i 1) from Layer.ext3 rfl (place k (i 1)).1 (place k (i 1)).2]
    refine Layer.gather_layer _ w _ l ?_ 0 k (i 1)
    rw [val_main_v28_apply, val_main_v27_apply, val_main_v24_apply, val_main_v23_apply, val_main_c_3_apply,
      show idx_main_v28 (ix2 0 0) = ix1 (0 : Fin 1) from Layer.one_eq _ _, Layer.wrap_of_nonneg _ _ h, h, hl]

/-- Branch 3's share as the reference has it. -/
theorem ref_share3 (p : S32768x512.Idx → EReal) (w : S4x512x2048.Idx → EReal) (z : S32768x13312.Idx → EReal) (i : S32768x2048.Idx) :
    val_main_v75 (F := Ideal) x0 p w z i = share l 3 p w z i := by
  rw [val_main_v75_apply, val_main_v69_apply, val_main_v67_apply, val_main_v68_apply, val_main_v66_apply, val_main_cst_12_apply, val_main_cst_13_apply, val_main_v65_apply, val_main_v64_apply, val_main_v63_apply, val_main_v1_apply, val_main_v0_apply, val_main_v41_apply]
  unfold share
  refine congrArg₂ (· * ·) ?_ (Finset.sum_congr rfl fun k _ => congrArg₂ (· * ·) ?_ ?_)
  · exact congrArg (fun v => gate (z v)) (Layer.ext2 rfl (by show 5120 + (6144 + (i 1).val) = 5120 + (3 * 2048 + (i 1).val); omega))
  · rw [val_main_v32_apply]; exact congrArg p (Layer.ext2 rfl rfl)
  · rw [val_main_v40_apply]
    unfold val_main_v39
    rw [show idx_main_v40 (ridx_main_v41 i k) = ix3 (0 : Fin 1) k (i 1) from Layer.ext3 rfl (place k (i 1)).1 (place k (i 1)).2]
    refine Layer.gather_layer _ w _ l ?_ 0 k (i 1)
    rw [val_main_v38_apply, val_main_v37_apply, val_main_v34_apply, val_main_v33_apply, val_main_c_5_apply,
      show idx_main_v38 (ix2 0 0) = ix1 (0 : Fin 1) from Layer.one_eq _ _, Layer.wrap_of_nonneg _ _ h, h, hl]

/-- The reference's result is `out` of its arguments. -/
theorem reference (x1 x2 x3 x4 : S32768x512.Idx → EReal) (x5 x6 x7 x8 : S4x512x2048.Idx → EReal) (x9 : S32768x13312.Idx → EReal) :
    val_main_v77 (F := Ideal) x0 x1 x2 x3 x4 x5 x6 x7 x8 x9 = out l x1 x2 x3 x4 x5 x6 x7 x8 x9 := by
  funext i
  rw [val_main_v77_apply, val_main_v76_apply, val_main_v74_apply, val_main_v72_apply, ref_share0 l x0 h hl, ref_share1 l x0 h hl, ref_share2 l x0 h hl, ref_share3 l x0 h hl]
  rfl

end Reference

/-- From memories with the same arguments both programs end with the same result. -/
theorem algebraic : Cert.algebraic_MergeIdeal_MergeRefIdeal := by
  intro m g m' g' hp hm
  obtain ⟨hl, ht⟩ := bounds m hp
  refine ⟨fun c => out ⟨(layer m).toNat, hl⟩ (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), run m g (ok m hl) hl, ?_⟩
  refine (θ_run _ _ _).mono (fun r h c => ?_) (Cert.MergeRefIdeal.Value.run m' g')
  obtain ⟨e0, e1, e2, e3, e4, e5, e6, e7, e8, e9⟩ := hm c
  obtain rfl : c = 0 := Subsingleton.elim _ _
  refine ⟨(h 0).1.trans ?_, (h 0).2⟩
  rw [MergeRefIdeal.Read.val_main_v77_eq]
  rw [e0, e1, e2, e3, e4, e5, e6, e7, e8, e9]
  exact reference _ _ ht rfl _ _ _ _ _ _ _ _ _

end Cert.Proof.Merge

end
-- ==== Proof.OprojTables.lean ====
/- The output projection's prefetched layer number: which block of the stacked weights a point of the grid reads, that it lies inside the
   stack when the number is below 4, and with that the frames of the program and of its ideal. -/
module

public import proofs.«01_k».proof.Defs
public import proofs.«01_k».proof.Proof.Gen.Oproj.Frame
public import proofs.«01_k».proof.Proof.Gen.OprojIdeal.Frame
public import proofs.«01_k».proof.Proof.Gen.Pre_oproj_layer
public import proofs.«01_k».proof.Proof.Layer
public import Idealize.ShloMosaic.Lib.Pipeline.Value

@[expose] public section

noncomputable section

namespace Cert.Proof.Tables.Oproj

open Cert.Oproj Cert.Oproj.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 2 := (i 1).isLt
  unfold cc0_transform_2
  simp only []
  rw [word]
  funext a
  match a with
  | ⟨0, _⟩ => rfl
  | ⟨1, _⟩ => rfl
  | ⟨2, _⟩ => show (BitVec.ofNat 32 (i 1).val).toNat = _; simp; omega

/-- With the layer number below 4 every block of the weights lies inside the stack. -/
theorem ok (h : (layer m).toNat < 4) : Ok m := by
  intro i
  have hi : (i 1).val < 2 := (i 1).isLt
  have hb : ∀ a, (cc0_transform_2 inb_S1_S1_0 numel1_S1 (tbl m) i a + 1) * S1x2048x1024.size a ≤ S4x2048x2048.size a := by
    rw [transform_2]
    intro a
    match a with
    | ⟨0, _⟩ => show ((layer m).toNat + 1) * 1 ≤ 4; omega
    | ⟨1, _⟩ => show (0 + 1) * 2048 ≤ 2048; omega
    | ⟨2, _⟩ => show ((i 1).val + 1) * 1024 ≤ 2048; omega
  exact ⟨hb, .inr (Affine.block_words_dvd (of_decide_eq_true rfl) (by decide))⟩

end

/-- The layer number's bounds, from the precondition. -/
theorem bounds (m : (ℓ : Loc nD τ sig) → Buf (Elt Bits) ℓ) (h : Cert.Pre_Oproj m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_Oproj := fun m ρ h => frame m ρ (ok m (bounds m h).1)

end Cert.Proof.Tables.Oproj

namespace Cert.Proof.Tables.OprojIdeal

open Cert.OprojIdeal Cert.OprojIdeal.Gen
open Idealize.ShloMosaic Idealize.ShloMosaic.TcCoe Idealize.SL.Sem

section

variable {F : FTy → Type} [FloatOps F] (m : (ℓ : Loc nD τ sig) → Buf (Elt F) ℓ)

/-- The layer number that the launch memory holds. -/
abbrev layer (m : (ℓ : Loc nD τ sig) → Buf (Elt F) ℓ) : BitVec 32 := m (((0 : Dev nD) : Thread nD τ).loc main_arg0) (ix1 (0 : Fin 1))

/-- The word that the index maps read is that number. -/
theorem word : (tbl m).at 0 (Rect.unit (s := S1) ![0] S1.size inb_S1_S1_0) numel1_S1 = layer m := by
  unfold layer
  rw [show m (((0 : Dev nD) : Thread nD τ).loc main_arg0) = V m 0 main_arg0 from (V_main_arg0 m 0).symm]
  show V m 0 main_arg0 ?w = _
  congr 1
  exact Layer.one_eq _ _

/-- The block of the weights that a point reads through window 2. -/
theorem transform_2 (i : grid0.Coords) : cc0_transform_2 inb_S1_S1_0 numel1_S1 (tbl m) i = ![(layer m).toNat, 0, (i 1).val] := by
  have hi : (i 1).val < 2 := (i 1).isLt
  unfold cc0_transform_2
  simp only []
  rw [word]
  funext a
  match a with
  | ⟨0, _⟩ => rfl
  | ⟨1, _⟩ => rfl
  | ⟨2, _⟩ => show (BitVec.ofNat 32 (i 1).val).toNat = _; simp; omega

/-- With the layer number below 4 every block of the weights lies inside the stack. -/
theorem ok (h : (layer m).toNat < 4) : Ok m := by
  intro i
  have hi : (i 1).val < 2 := (i 1).isLt
  have hb : ∀ a, (cc0_transform_2 inb_S1_S1_0 numel1_S1 (tbl m) i a + 1) * S1x2048x1024.size a ≤ S4x2048x2048.size a := by
    rw [transform_2]
    intro a
    match a with
    | ⟨0, _⟩ => show ((layer m).toNat + 1) * 1 ≤ 4; omega
    | ⟨1, _⟩ => show (0 + 1) * 2048 ≤ 2048; omega
    | ⟨2, _⟩ => show ((i 1).val + 1) * 1024 ≤ 2048; omega
  exact ⟨hb, .inr (Affine.block_words_dvd (of_decide_eq_true rfl) (by decide))⟩

end

/-- The layer number's bounds, from the precondition. -/
theorem bounds (m : (ℓ : Loc nD τ sig) → Buf (Elt Ideal) ℓ) (h : Cert.Pre_OprojIdeal m) :
    (layer m).toNat < 4 ∧ (layer m).toInt = ((layer m).toNat : Int) :=
  Layer.word_bounds _ (congrFun (h 0) (ix1 (0 : Fin 1)))

/-- The program ends with its arguments as they were and every semaphore at zero. -/
theorem quiescent : Cert.quiescent_OprojIdeal := fun m ρ h => frame m ρ (ok m (bounds m h).1)

end Cert.Proof.Tables.OprojIdeal

end
-- ==== Proof.Oproj.lean ====
/- The output projection: what the kernel leaves and what its reference leaves are the same array, the residual plus the product of
   the merged branches with the layer's output weights. -/
module

public import proofs.«01_k».proof.Defs
public import proofs.«01_k».proof.Proof.Gen.OprojIdeal.Frame
public import proofs.«01_k».proof.Proof.Gen.OprojRefIdeal.Run
public import proofs.«01_k».proof.Proof.Gen.OprojRefIdeal.Read
public import proofs.«01_k».proof.Proof.Gen.Pre_oproj_layer
public import proofs.«01_k».proof.Proof.OprojTables
public import Idealize.ShloMosaic.Lib.Pipeline.Value
public import Idealize.ShloMosaic.Lib.Pipeline.ValueKit
import Idealize.ShloMosaic.Lib.Pointwise

@[expose] public section

noncomputable section

namespace Cert.Proof.Oproj

open Cert.OprojIdeal Cert.OprojIdeal.Gen Cert.Proof.Tables.OprojIdeal
open Idealize.ShloMosaic Idealize.ShloMosaic.TcCoe Idealize.SL.Sem

/-- What both programs compute: the residual plus the product of the merged branches with layer `l` of the weights. -/
def out (l : Fin 4) (x : S32768x2048.Idx → EReal) (y : S32768x2048.Idx → EReal) (w : S4x2048x2048.Idx → EReal) : S32768x2048.Idx → EReal :=
  fun i => x i + ∑ k : Fin 2048, y (ix2 (i 0) k) * w (ix3 l k (i 1))

/-- What a point leaves in its block of the result is the body's payload. -/
theorem stored (c : Dev nD) (i : grid0.Coords) (arg3 : Memref sig .tc .vmem S1024x1024 .f32) (harg3 : arg3.IsWhole)
    (arg4 : Memref sig .tc .vmem S1024x2048 .bf16) (harg4 : arg4.IsWhole) (arg5 : Memref sig .tc .vmem S1x2048x1024 .bf16)
    (harg5 : arg5.IsWhole) (arg6 : Memref sig .tc .vmem S1024x1024 .f32) (harg6 : arg6.IsWhole)
    (x : Vec Ideal S1024x1024 .f32) (y : Vec Ideal S1024x2048 .bf16) (w : Vec Ideal S1x2048x1024 .bf16) (l : TbBuf0 (F := Ideal) c tbM0_0) :
    out0_A_3 c i arg3 harg3 arg4 harg4 arg5 harg5 arg6 harg6 x y w l = k0_pay1 x y w := by
  frame_out

/-- What the body stores, at an index. -/
theorem pay (x : Vec Ideal S1024x1024 .f32) (y : Vec Ideal S1024x2048 .bf16) (w : Vec Ideal S1x2048x1024 .bf16) (j : S1024x1024.Idx) :
    k0_pay1 x y w j = x j + ∑ k : Fin 2048, y (ix2 (j 0) k) * w (ix3 (0 : Fin 1) k (j 1)) := by
  unfold k0_pay1
  pointwise

section Kernel

variable (m : (ℓ : Loc nD τ sig) → Buf (Elt Ideal) ℓ) (ρ : Dev nD → PrngReg) (hO : Ok m) (hl : (layer m).toNat < 4)

/-- The weights as the launch finds them: the format change that precedes the call changes nothing here. -/
theorem V_main_v0 (c : Dev nD) : V m c main_v0 = m ((c : Thread nD τ).loc main_arg3) := by
  show StableHlo.after hostOps0 (fun b => m (c, b)) main_v0 = _
  unfold hostOps0
  after_results <;> rfl

/-- Every block of the result is some point's. -/
theorem onto : ∀ (b0 : Fin 32) (b1 : Fin 2), ∃ t : Fin grid0.N, cc0_transform_3 (grid0.coords t) = ![b0.val, b1.val] := by
  decide +kernel

/-- The blocks written back cover the result. -/
theorem covers : ((cfgM m hO).win 3).Covers :=
  ⟨fun a => by match a with
    | ⟨0, _⟩ => exact (by decide : 0 < 1024)
    | ⟨1, _⟩ => exact (by decide : 0 < 1024), fun β => by
    obtain ⟨t, ht⟩ := onto ⟨(β (0 : Fin 2)).val, lt_of_lt_of_eq (β (0 : Fin 2)).isLt (show (32768 + 1024 - 1) / 1024 = 32 by decide)⟩
      ⟨(β (1 : Fin 2)).val, lt_of_lt_of_eq (β (1 : Fin 2)).isLt (show (2048 + 1024 - 1) / 1024 = 2 by decide)⟩
    refine ⟨t, flush0_3 _ t, fun a => ⟨?_, .inl rfl⟩⟩
    show cc0_transform_3 (grid0.coords t) a = _
    rw [ht]
    match a with
    | ⟨0, _⟩ => rfl
    | ⟨1, _⟩ => rfl⟩

/-- The grid's coordinates as numbers of blocks. -/
theorem coord0 (t : Fin grid0.N) : (BitVec.ofNat 32 (grid0.coords t 0).val).toNat = (grid0.coords t 0).val := by
  have : (grid0.coords t 0).val < 32 := (grid0.coords t 0).isLt
  simp; omega

theorem coord1 (t : Fin grid0.N) : (BitVec.ofNat 32 (grid0.coords t 1).val).toNat = (grid0.coords t 1).val := by
  have : (grid0.coords t 1).val < 2 := (grid0.coords t 1).isLt
  simp; omega

/-- The residual's block at a point. -/
theorem blk_x (c : Dev nD) (t : Fin grid0.N) (j : S1024x1024.Idx) (i : S32768x2048.Idx)
    (h0 : (i 0).val = (grid0.coords t 0).val * 1024 + (j 0).val) (h1 : (i 1).val = (grid0.coords t 1).val * 1024 + (j 1).val) :
    iblk m hO c 0 t j = m ((c : Thread nD τ).loc main_arg1) i := by
  refine (congrArg (V m c main_arg1) (?_ : _ = i)).trans (congrFun (V_main_arg1 m c) i)
  refine Layer.ext2 ?_ ?_
  · rw [h0, ← coord0]; exact congrArg (_ + ·) (Nat.one_mul _)
  · rw [h1, ← coord1]; exact congrArg (_ + ·) (Nat.one_mul _)

/-- The merged branches' block at a point. -/
theorem blk_y (c : Dev nD) (t : Fin grid0.N) (j : S1024x2048.Idx) (i : S32768x2048.Idx)
    (h0 : (i 0).val = (grid0.coords t 0).val * 1024 + (j 0).val) (h1 : (i 1).val = (j 1).val) :
    iblk m hO c 1 t j = m ((c : Thread nD τ).loc main_arg2) i := by
  refine (congrArg (V m c main_arg2) (?_ : _ = i)).trans (congrFun (V_main_arg2 m c) i)
  refine Layer.ext2 ?_ ?_
  · rw [h0, ← coord0]; exact congrArg (_ + ·) (Nat.one_mul _)
  · rw [h1]; show 0 * 2048 + 1 * (j 1).val = _; omega

/-- The weights' block at a point. -/
theorem blk_w (c : Dev nD) (t : Fin grid0.N) (j : S1x2048x1024.Idx) (i : S4x2048x2048.Idx)
    (h0 : (i 0).val = (layer m).toNat) (h1 : (i 1).val = (j 1).val) (h2 : (i 2).val = (grid0.coords t 1).val * 1024 + (j 2).val) :
    iblk m hO c 2 t j = m ((c : Thread nD τ).loc main_arg3) i := by
  have hj : (j 0).val = 0 := Nat.lt_one_iff.mp (j 0).isLt
  have e := transform_2 m (grid0.coords t)
  refine (congrArg (V m c main_v0) (?_ : _ = i)).trans (congrFun (V_main_v0 m c) i)
  refine Layer.ext3 ?_ ?_ ?_
  · rw [h0]; show cc0_transform_2 inb_S1_S1_0 numel1_S1 (tbl m) (grid0.coords t) 0 * 1 + 1 * (j 0).val = _
    rw [e, hj]; show (layer m).toNat * 1 + 1 * 0 = _; omega
  · rw [h1]; show cc0_transform_2 inb_S1_S1_0 numel1_S1 (tbl m) (grid0.coords t) 1 * 2048 + 1 * (j 1).val = _
    rw [e]; show 0 * 2048 + 1 * (j 1).val = _; omega
  · rw [h2]; show cc0_transform_2 inb_S1_S1_0 numel1_S1 (tbl m) (grid0.coords t) 2 * 1024 + 1 * (j 2).val = _
    rw [e]; show (grid0.coords t 1).val * 1024 + 1 * (j 2).val = _; omega

/-- What a point leaves in its block, at an index. -/
theorem point (c : Dev nD) (t : Fin grid0.N) (y : S1024x1024.Idx) (i : S32768x2048.Idx)
    (h0 : (i 0).val = (grid0.coords t 0).val * 1024 + (y 0).val) (h1 : (i 1).val = (grid0.coords t 1).val * 1024 + (y 1).val) :
    outsAt0 m hO c t y
      = out ⟨(layer m).toNat, hl⟩ (m ((c : Thread nD τ).loc main_arg1)) (m ((c : Thread nD τ).loc main_arg2)) (m ((c : Thread nD τ).loc main_arg3)) i := by
  unfold outsAt0
  refine (congrFun (stored c _ _ _ _ _ _ _ _ _ _ _ _ _) y).trans ((pay _ _ _ y).trans ?_)
  unfold out
  refine congrArg₂ (· + ·) (blk_x m hO c t y i h0 h1) (Finset.sum_congr rfl fun k _ => ?_)
  exact congrArg₂ (· * ·) (blk_y m hO c t _ _ h0 rfl) (blk_w m hO c t _ _ rfl rfl h1)

/-- Where a block of the result lies. -/
theorem emb0 (t : Fin grid0.N) (y : S1024x1024.Idx) :
    ((((cfgM m hO).win 3).blk t).view.emb y (0 : Fin 2)).val = (grid0.coords t 0).val * 1024 + (y 0).val := by
  show (BitVec.ofNat 32 (grid0.coords t 0).val).toNat * 1024 + 1 * (y 0).val = _
  rw [coord0, Nat.one_mul]

theorem emb1 (t : Fin grid0.N) (y : S1024x1024.Idx) :
    ((((cfgM m hO).win 3).blk t).view.emb y (1 : Fin 2)).val = (grid0.coords t 1).val * 1024 + (y 1).val := by
  show (BitVec.ofNat 32 (grid0.coords t 1).val).toNat * 1024 + 1 * (y 1).val = _
  rw [coord1, Nat.one_mul]

/-- The array the call leaves. -/
theorem final (c : Dev nD) : (dats m hO 0 c).arrAt 3 (cfgM m hO).N
    = out ⟨(layer m).toNat, hl⟩ (m ((c : Thread nD τ).loc main_arg1)) (m ((c : Thread nD τ).loc main_arg2)) (m ((c : Thread nD τ).loc main_arg3)) :=
  (dats m hO 0 c).arrAt_eq_of_covers 3 _ (covers m hO) fun t _ y =>
    (congrFun (after0_3 m hO c t) y).trans (point m hO hl c t y _ (emb0 m hO t y) (emb1 m hO t y))

include hO in
/-- The kernel's run: the result is `out` of the arguments, which end unchanged. -/
theorem run : θ_run defs (onTc (τ := τ) (main (F := Ideal))) ⟨m, fun _ => 0, ρ⟩ fun r => ∀ c : Dev nD,
      r.2.mem ((c.tc : Thread nD τ).loc main_v1) = out ⟨(layer m).toNat, hl⟩ (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 3).trans (final m hO hl c), h.2 c⟩)
    (θ_run_and (run_main m ρ hO) (unchanged m ρ hO))

end Kernel

/-! ## The reference -/

section Reference

open Cert.OprojRefIdeal.Read

/-- The reference's result is `out` of its arguments. -/
theorem reference (l : Fin 4) (x0 : S1.Idx → BitVec 32) (x1 : S32768x2048.Idx → EReal) (x2 : S32768x2048.Idx → EReal) (x3 : S4x2048x2048.Idx → EReal)
    (h : (x0 (ix1 (0 : Fin 1))).toInt = ((x0 (ix1 (0 : Fin 1))).toNat : Int)) (hl : (x0 (ix1 (0 : Fin 1))).toNat = l.val) :
    val_main_v10 (F := Ideal) x0 x1 x2 x3 = out l x1 x2 x3 := by
  funext i
  rw [val_main_v10_apply, val_main_v9_apply]
  unfold out
  refine congrArg₂ (· + ·) rfl (Finset.sum_congr rfl fun k _ => congrArg₂ (· * ·) ?_ ?_)
  · exact congrArg x2 (Layer.ext2 rfl rfl)
  · rw [val_main_v8_apply]
    unfold val_main_v7
    rw [show OprojRefIdeal.Read.idx_main_v8 (ridx_main_v9 i k) = ix3 (0 : Fin 1) k (i 1) from Layer.ext3 rfl
      (by have h0 := k.isLt; have h1 : (i 1).val < 2048 := (i 1).isLt; show (k.val * 2048 + (i 1).val) / 2048 % 2048 = k.val; omega)
      (by have h0 := k.isLt; have h1 : (i 1).val < 2048 := (i 1).isLt; show (k.val * 2048 + (i 1).val) % 2048 = (i 1).val; omega)]
    refine Layer.gather_layer _ x3 _ l ?_ 0 k (i 1)
    rw [val_main_v6_apply, val_main_v5_apply, val_main_v2_apply, val_main_v1_apply, val_main_c_apply,
      show idx_main_v6 (ix2 0 0) = ix1 (0 : Fin 1) from Layer.one_eq _ _, Layer.wrap_of_nonneg _ _ h, h, hl]

end Reference

/-- From memories with the same arguments both programs end with the same result. -/
theorem algebraic : Cert.algebraic_OprojIdeal_OprojRefIdeal := by
  intro m g m' g' hp hm
  obtain ⟨hl, ht⟩ := bounds m hp
  refine ⟨fun c => out ⟨(layer m).toNat, hl⟩ (m ((c : Thread nD τ).loc main_arg1)) (m ((c : Thread nD τ).loc main_arg2)) (m ((c : Thread nD τ).loc main_arg3)), run m g (ok m hl) hl, ?_⟩
  refine (θ_run _ _ _).mono (fun r h c => ?_) (Cert.OprojRefIdeal.Value.run m' g')
  obtain ⟨e0, e1, e2, e3⟩ := hm c
  obtain rfl : c = 0 := Subsingleton.elim _ _
  refine ⟨(h 0).1.trans ?_, (h 0).2⟩
  rw [OprojRefIdeal.Read.val_main_v10_eq]
  rw [e0, e1, e2, e3]
  exact reference _ _ _ _ _ ht rfl

end Cert.Proof.Oproj

end
-- ==== Proof.Bias.lean ====
/- The tiles of the relative position bias: what the kernel leaves and what its reference leaves are the same array, the table's entry
   of the pair's bucket over log 2 where the key is not ahead of the query, and −∞ elsewhere. -/
module

public import proofs.«01_k».proof.Defs
public import proofs.«01_k».proof.Proof.Gen.BiasIdeal.Frame
public import proofs.«01_k».proof.Proof.Gen.BiasRefIdeal.Run
public import proofs.«01_k».proof.Proof.Gen.BiasRefIdeal.Read
public import proofs.«01_k».proof.Proof.Layer
public import Idealize.ShloMosaic.Lib.ValueIdx
public import Idealize.ShloMosaic.Lib.Pipeline.Value
public import Idealize.ShloMosaic.Lib.Pipeline.ValueKit
import Idealize.ShloMosaic.Lib.Pointwise

@[expose] public section

noncomputable section

namespace Cert.Proof.Bias

open Cert.BiasIdeal Cert.BiasIdeal.Gen
open Idealize.ShloMosaic Idealize.ShloMosaic.TcCoe Idealize.SL.Sem

/-! ## Buckets of distances -/

/-- The literal 16. -/
theorem sixteen : Ideal.ofBits .f32 0x41800000#32 = ((16 : ℝ) : EReal) := by
  simp [Ideal.ofBits, Ideal.ieee, -EReal.coe_mul]; norm_num

/-- A distance clipped below at zero. -/
def clip (d : BitVec 32) : BitVec 32 := IntOp.maxsi d 0#32

/-- The bucket of a distance of 16 or more before the bound above: 16 plus 16 times the logarithm of a sixteenth
    of it to base 128, rounded down. -/
def far (n : BitVec 32) : BitVec 32 :=
  IntOp.addi 16#32 (Ideal.fptosi 32
    (Ideal.div (Ideal.log (Ideal.div (((IntOp.maxsi n 1#32).toInt : ℝ) : EReal) (Ideal.ofBits .f32 0x41800000#32)))
      ((Real.log 128 : ℝ) : EReal) * Ideal.ofBits .f32 0x41800000#32))

/-- The bucket of a distance: itself below 16, then spaced by logarithms, at most 31. -/
def bucket (d : BitVec 32) : BitVec 32 :=
  Scalar.select (IntOp.cmpi .slt (clip d) 16#32) (clip d) (IntOp.minsi (far (clip d)) 31#32)

/-- A clipped distance isn't negative. -/
theorem clip_nonneg (d : BitVec 32) : 0 ≤ (clip d).toInt := by
  unfold clip IntOp.maxsi
  split
  · rename_i h
    simp only [BitVec.slt, decide_eq_true_eq] at h
    simpa using h.le
  · simp

/-- The logarithm of 128 is more than one. -/
theorem one_le_log : 1 ≤ Real.log 128 := by
  have h : Real.log 128 = 7 * Real.log 2 := by
    rw [show (128 : ℝ) = 2 ^ 7 by norm_num, Real.log_pow]; norm_num
  have := Real.one_sub_inv_le_log_of_pos (show (0 : ℝ) < 2 by norm_num)
  norm_num at this
  linarith

/-- The bucket of a distance of 16 or more, before the bound above, is at least 16: it is 16 plus a number between 0
    and the distance less 16, so the sum of words doesn't wrap. -/
theorem far_bounds (n : BitVec 32) (h : 16 ≤ n.toInt) : 16 ≤ (far n).toInt := by
  have hn : IntOp.maxsi n 1#32 = n := by
    unfold IntOp.maxsi
    rw [if_pos]
    simp only [BitVec.slt, decide_eq_true_eq]
    have : (1#32 : BitVec 32).toInt = 1 := by decide
    omega
  have hlt : n.toInt < 2 ^ 31 := by have := BitVec.toInt_lt (x := n); simpa using this
  have hr : (16 : ℝ) ≤ (n.toInt : ℝ) := by exact_mod_cast h
  have hl := one_le_log
  have hx : (1 : ℝ) ≤ (n.toInt : ℝ) * (1 / 16) := by linarith
  have h0 : 0 ≤ Real.log ((n.toInt : ℝ) * (1 / 16)) := Real.log_nonneg hx
  have h1 : Real.log ((n.toInt : ℝ) * (1 / 16)) ≤ (n.toInt : ℝ) * (1 / 16) - 1 := Real.log_le_sub_one_of_pos (by linarith)
  have hi : 1 / Real.log 128 ≤ 1 := by rw [div_le_one (by linarith)]; exact hl
  have hi0 : 0 ≤ 1 / Real.log 128 := by positivity
  unfold far
  rw [hn, sixteen, Ideal.div_coe (y := 16) (by norm_num), ← EReal.coe_mul, Ideal.log_coe, if_neg (by linarith),
    Ideal.div_coe (y := Real.log 128) (by linarith), ← EReal.coe_mul, ← EReal.coe_mul]
  generalize hv : Real.log ((n.toInt : ℝ) * (1 / 16)) * (1 / Real.log 128) * 16 = v
  have v0 : 0 ≤ v := by rw [← hv]; positivity
  have v1 : v ≤ (n.toInt : ℝ) - 16 := by
    rw [← hv]
    have : Real.log ((n.toInt : ℝ) * (1 / 16)) * (1 / Real.log 128) ≤ Real.log ((n.toInt : ℝ) * (1 / 16)) * 1 :=
      mul_le_mul_of_nonneg_left hi h0
    linarith
  have f0 : 0 ≤ ⌊v⌋ := Int.floor_nonneg.mpr v0
  have f1 : ⌊v⌋ ≤ n.toInt - 16 := by
    have : (⌊v⌋ : ℝ) ≤ (n.toInt : ℝ) - 16 := (Int.floor_le v).trans v1
    exact_mod_cast this
  unfold Ideal.fptosi IntOp.addi
  rw [Ideal.toIntClamped_coe, if_pos v0]
  have e : max (-((2 ^ (32 - 1) : Nat) : Int)) (min (((2 ^ (32 - 1) : Nat) : Int) - 1) ⌊v⌋) = ⌊v⌋ := by
    norm_num at *
    omega
  rw [e, BitVec.toInt_add, BitVec.toInt_ofInt]
  have s : (16#32 : BitVec 32).toInt = 16 := by decide
  rw [s, Int.bmod_eq_of_le (n := ⌊v⌋) (by norm_num; omega) (by norm_num; omega),
    Int.bmod_eq_of_le (by norm_num; omega) (by norm_num; omega)]
  omega

/-- A bucket is one of the table's 32 rows. -/
theorem bucket_lt (d : BitVec 32) : (bucket d).toNat < 32 := by
  have key (w : BitVec 32) (h0 : 0 ≤ w.toInt) (h1 : w.toInt < 32) : w.toNat < 32 := by
    rw [BitVec.toInt_eq_toNat_cond] at h0 h1
    have := w.isLt
    split at h0 <;> omega
  have h := clip_nonneg d
  have s16 : (16#32 : BitVec 32).toInt = 16 := by decide
  have s31 : (31#32 : BitVec 32).toInt = 31 := by decide
  unfold bucket
  by_cases hc : (clip d).toInt < 16
  · have : IntOp.cmpi .slt (clip d) 16#32 = 1#1 := by
      simp only [IntOp.cmpi, BitVec.slt, s16, hc, decide_true]; rfl
    rw [this]
    exact key _ h (by show (clip d).toInt < 32; omega)
  · have : IntOp.cmpi .slt (clip d) 16#32 = 0#1 := by
      simp only [IntOp.cmpi, BitVec.slt, s16, hc, decide_false]; rfl
    rw [this]
    have hf := far_bounds (clip d) (by omega)
    show (IntOp.minsi (far (clip d)) 31#32).toNat < 32
    unfold IntOp.minsi
    split
    · rename_i hs
      simp only [BitVec.slt, decide_eq_true_eq, s31] at hs
      exact key _ (by omega) (by omega)
    · decide

/-- A chain of choices, one for each of the numbers below `n`: the entry of the number that the word is. -/
def chain (b : BitVec 32) (f : Nat → EReal) : Nat → EReal
  | 0 => 0
  | n + 1 => Scalar.select (IntOp.cmpi .eq b (BitVec.ofNat 32 n)) (f n) (chain b f n)

/-- A chain long enough takes the word's own entry. -/
theorem chain_eq (b : BitVec 32) (f : Nat → EReal) (n : Nat) (hn : n ≤ 32) (h : b.toNat < n) : chain b f n = f b.toNat := by
  induction n with
  | zero => omega
  | succ n ih =>
    unfold chain
    by_cases e : b = BitVec.ofNat 32 n
    · subst e
      rw [BitVec.toNat_ofNat, Nat.mod_eq_of_lt (by omega)]
      simp [Scalar.select, IntOp.cmpi]
    · have hne : b.toNat ≠ n := fun hb => e (by rw [← hb]; simp)
      rw [← ih (by omega) (by omega)]
      have : (b == BitVec.ofNat 32 n) = false := by simpa using e
      simp [Scalar.select, IntOp.cmpi, this]

/-! ## The kernel -/

/-- What the body stores, from the 32 words it reads. -/
def body (i : grid0.Coords) (f : Nat → EReal) : Vec Ideal S1x1x256x256 .f32 :=
  let b := k0_pay3 (F := Ideal) i
  k0_pay1 (F := Ideal) (k0_pay10 b (k0_pay9 b (k0_pay7 b
    (k0_pay6 b (k0_pay4 i (f 0) (f 1)) (k0_pay5 (F := Ideal) i) (f 2) (f 3) (f 4) (f 5) (f 6) (f 7) (f 8) (f 9))
    10#32 (f 10) (f 11) (f 12) (f 13) (f 14) (f 15) (f 16))
    (k0_pay8 b) (f 17) (f 18) (f 19) (f 20) (f 21) (f 22) (f 23) (f 24)) 25#32
    (f 25) (f 26) (f 27) (f 28) (f 29) (f 30) (f 31)) (k0_pay11 (k0_pay2 i)) k0_pay12

/-- A word read from the table is the entry at the word's two offsets. -/
theorem word (x : Vec Ideal S32x4 .f32) (o : Fin 2 → Nat) (hb : ∀ a, o a + (![1, 1] : Fin 2 → Nat) a ≤ S32x4.size a)
    (z : (Rect.unit (s := S32x4) o ![1, 1] hb).shape.Idx) :
    View.ld x (Rect.unit (s := S32x4) o ![1, 1] hb) z = x (ix2 (Fin.ofNat 32 (o 0)) (Fin.ofNat 4 (o 1))) := by
  have z0 : (z 0).val = 0 := Nat.lt_one_iff.mp (z 0).isLt
  have z1 : (z 1).val = 0 := Nat.lt_one_iff.mp (z 1).isLt
  have h0 : o 0 + 1 ≤ 32 := hb 0
  have h1 : o 1 + 1 ≤ 4 := hb 1
  refine congrArg x (Layer.ext2 ?_ ?_)
  · show o 0 + 1 * (z 0).val = o 0 % 32; omega
  · show o 1 + 1 * (z 1).val = o 1 % 4; omega

/-- What a point leaves in its block is the body's payload. -/
theorem stored (c : Dev nD) (i : grid0.Coords) (arg2 : Memref sig .tc .smem S32x4 .f32) (harg2 : arg2.IsWhole)
    (arg3 : Memref sig .tc .vmem S1x1x256x256 .f32) (harg3 : arg3.IsWhole) (x : Vec Ideal S32x4 .f32) :
    out0_A_1 c i arg2 harg2 arg3 harg3 x
      = body i (fun n => x (ix2 (Fin.ofNat 32 n) (Fin.ofNat 4 (BitVec.ofNat 32 (i 0).val).toNat))) := by
  frame_out
  unfold body
  repeat rw [word]
  simp only [k0_off1, k0_off2, k0_off3, k0_off4, k0_off5, k0_off6, k0_off7, k0_off8, k0_off9, k0_off10, k0_off11, k0_off12,
    k0_off13, k0_off14, k0_off15, k0_off16, k0_off17, k0_off18, k0_off19, k0_off20, k0_off21, k0_off22, k0_off23, k0_off24,
    k0_off25, k0_off26, k0_off27, k0_off28, k0_off29, k0_off30, k0_off31, k0_off32]
  rfl

/-- The distance of a pair `t` blocks apart: the query's place in its block, and 256 for each block between, less the key's place in
    its own block. -/
def dist (t k q : Nat) : BitVec 32 :=
  IntOp.subi (IntOp.addi (IntOp.muli (BitVec.ofNat 32 t) 256#32) (BitVec.ofNat 32 q)) (BitVec.ofNat 32 k)

/-- The words of distances, at an index. -/
theorem pay2 (i : grid0.Coords) (j : S256x256.Idx) : k0_pay2 i j = dist (i 1).val (j 0).val (j 1).val := by
  unfold k0_pay2 dist
  pointwise
  rfl

/-- The words of buckets, at an index. -/
theorem pay3 (i : grid0.Coords) (j : S256x256.Idx) : k0_pay3 (F := Ideal) i j = bucket (dist (i 1).val (j 0).val (j 1).val) := by
  rw [← pay2]
  unfold k0_pay3 bucket far clip
  pointwise
  rw [IdealRules.named_const.ideal_named_scalar Cert.BiasIdeal.κ "log_128" _ _ rfl]
  rfl

/-- What the body stores, at an index. -/
theorem pay (i : grid0.Coords) (f : Nat → EReal) (k q : Fin 256) :
    body i f (ix4 (0 : Fin 1) (0 : Fin 1) k q)
      = Scalar.select (IntOp.cmpi .sge (dist (i 1).val k.val q.val) 0#32)
          (f (bucket (dist (i 1).val k.val q.val)).toNat * (((Real.log 2)⁻¹ : ℝ) : EReal)) ⊥ := by
  unfold body
  rw [← chain_eq _ f 32 le_rfl (bucket_lt _)]
  rw [← show k0_pay3 (F := Ideal) i (ix2 k q) = bucket (dist (i 1).val k.val q.val) from pay3 i (ix2 k q),
    ← show k0_pay2 i (ix2 k q) = dist (i 1).val k.val q.val from pay2 i (ix2 k q)]
  unfold k0_pay4 k0_pay5
  generalize k0_pay3 (F := Ideal) i = b
  unfold k0_pay1 k0_pay6 k0_pay7 k0_pay8 k0_pay9 k0_pay10 k0_pay11 k0_pay12
  pointwise
  rw [IdealRules.named_const.ideal_named_scalar Cert.BiasIdeal.κ "log2_e" _ _ rfl,
    IdealRules.named_const.ideal_named_scalar Cert.BiasIdeal.κ "mask" _ _ rfl]
  rfl

/-- What both programs compute: over log 2, the table's entry of the pair's bucket and the head where the key isn't ahead of the query,
    and −∞ elsewhere. -/
def out (x : S32x4.Idx → EReal) : S4x32x256x256.Idx → EReal := fun i =>
  Scalar.select (IntOp.cmpi .sge (dist (i 1).val (i 2).val (i 3).val) 0#32)
    (x (ix2 (Fin.ofNat 32 (bucket (dist (i 1).val (i 2).val (i 3).val)).toNat) (i 0)) * (((Real.log 2)⁻¹ : ℝ) : EReal)) ⊥

/-- Two indices with equal coordinates are equal: four axes. -/
theorem ext4 {a b c d : Nat} {i j : (⟨4, ![a, b, c, d]⟩ : Shape).Idx} (h0 : (i 0).val = (j 0).val) (h1 : (i 1).val = (j 1).val)
    (h2 : (i 2).val = (j 2).val) (h3 : (i 3).val = (j 3).val) : i = j := by
  funext e
  match e with
  | ⟨0, _⟩ => exact Fin.ext h0
  | ⟨1, _⟩ => exact Fin.ext h1
  | ⟨2, _⟩ => exact Fin.ext h2
  | ⟨3, _⟩ => exact Fin.ext h3

section Kernel

variable (m : (ℓ : Loc nD τ sig) → Buf (Elt Ideal) ℓ) (ρ : Dev nD → PrngReg)

/-- Every block of the result is some point's. -/
theorem onto : ∀ (b0 : Fin 4) (b1 : Fin 32), ∃ t : Fin grid0.N, cc0_transform_1 (grid0.coords t) = ![b0.val, b1.val, 0, 0] := by
  decide +kernel

/-- The blocks written back cover the result. -/
theorem covers : (cfg0.win 1).Covers :=
  ⟨fun a => by match a with
    | ⟨0, _⟩ => exact (by decide : 0 < 1)
    | ⟨1, _⟩ => exact (by decide : 0 < 1)
    | ⟨2, _⟩ => exact (by decide : 0 < 256)
    | ⟨3, _⟩ => exact (by decide : 0 < 256), fun β => by
    obtain ⟨t, ht⟩ := onto ⟨(β (0 : Fin 4)).val, lt_of_lt_of_eq (β (0 : Fin 4)).isLt (show (4 + 1 - 1) / 1 = 4 by decide)⟩
      ⟨(β (1 : Fin 4)).val, lt_of_lt_of_eq (β (1 : Fin 4)).isLt (show (32 + 1 - 1) / 1 = 32 by decide)⟩
    have h2 : (β (2 : Fin 4)).val = 0 := Nat.lt_one_iff.mp (lt_of_lt_of_eq (β (2 : Fin 4)).isLt (show (256 + 256 - 1) / 256 = 1 by decide))
    have h3 : (β (3 : Fin 4)).val = 0 := Nat.lt_one_iff.mp (lt_of_lt_of_eq (β (3 : Fin 4)).isLt (show (256 + 256 - 1) / 256 = 1 by decide))
    refine ⟨t, flush0_1 t, fun a => ⟨?_, .inl rfl⟩⟩
    show cc0_transform_1 (grid0.coords t) a = _
    rw [ht]
    match a with
    | ⟨0, _⟩ => rfl
    | ⟨1, _⟩ => rfl
    | ⟨2, _⟩ => exact h2.symm
    | ⟨3, _⟩ => exact h3.symm⟩

/-- The head of a point as the body computes it. -/
theorem head (i : grid0.Coords) : Fin.ofNat 4 (BitVec.ofNat 32 (i 0).val).toNat = (i 0 : Fin 4) := by
  have : (i 0).val < 4 := (i 0).isLt
  refine Fin.ext ?_
  show (BitVec.ofNat 32 (i 0).val).toNat % 4 = (i 0).val
  simp; omega

/-- The table's block at every point is the table. -/
theorem blk (c : Dev nD) (t : Fin grid0.N) (n : Fin 32) (h : Fin 4) :
    iblk m c 0 t (ix2 n h) = m ((c : Thread nD τ).loc main_arg0) (ix2 n h) := by
  refine (congrArg (V m c main_arg0) (?_ : _ = ix2 n h)).trans (congrFun (V_main_arg0 m c) (ix2 n h))
  refine Layer.ext2 ?_ ?_
  · show 0 * 32 + 1 * n.val = n.val; omega
  · show 0 * 4 + 1 * h.val = h.val; omega

/-- What a point leaves in its block of the result, at an index. -/
theorem point (c : Dev nD) (t : Fin grid0.N) (y : S1x1x256x256.Idx) (i : S4x32x256x256.Idx)
    (h0 : (i 0).val = (grid0.coords t 0).val) (h1 : (i 1).val = (grid0.coords t 1).val) (h2 : (i 2).val = (y 2).val) (h3 : (i 3).val = (y 3).val) :
    outsAt0 m c t y = out (m ((c : Thread nD τ).loc main_arg0)) i := by
  unfold outsAt0 out
  have hy : y = ix4 (0 : Fin 1) (0 : Fin 1) (y 2) (y 3) :=
    ext4 (Nat.lt_one_iff.mp (y 0).isLt) (Nat.lt_one_iff.mp (y 1).isLt) rfl rfl
  refine (congrArg _ hy).trans ?_
  refine (congrFun (stored c _ _ _ _ _ _) _).trans ((pay _ _ _ _).trans ?_)
  rw [show dist (i 1).val (i 2).val (i 3).val = dist (grid0.coords t 1).val (y 2).val (y 3).val by rw [h1, h2, h3]]
  refine congrArg (fun v : EReal => Scalar.select (IntOp.cmpi .sge (dist (grid0.coords t 1).val (y 2).val (y 3).val) 0#32)
    (v * (((Real.log 2)⁻¹ : ℝ) : EReal)) ⊥) ?_
  refine (blk m c t _ _).trans (congrArg _ (Layer.ext2 rfl ?_))
  exact (congrArg Fin.val (head (grid0.coords t))).trans h0.symm

/-- Where a block of the result lies: its first coordinate is the head. -/
theorem emb0 (t : Fin grid0.N) (y : S1x1x256x256.Idx) :
    (((cfg0.win 1).blk t).view.emb y (0 : Fin 4)).val = (grid0.coords t 0).val := by
  have hy : (y 0).val = 0 := Nat.lt_one_iff.mp (y 0).isLt
  have : (grid0.coords t 0).val < 4 := (grid0.coords t 0).isLt
  show (BitVec.ofNat 32 (grid0.coords t 0).val).toNat * 1 + 1 * (y 0).val = _
  simp; omega

/-- The second coordinate is the number of blocks between. -/
theorem emb1 (t : Fin grid0.N) (y : S1x1x256x256.Idx) :
    (((cfg0.win 1).blk t).view.emb y (1 : Fin 4)).val = (grid0.coords t 1).val := by
  have hy : (y 1).val = 0 := Nat.lt_one_iff.mp (y 1).isLt
  have : (grid0.coords t 1).val < 32 := (grid0.coords t 1).isLt
  show (BitVec.ofNat 32 (grid0.coords t 1).val).toNat * 1 + 1 * (y 1).val = _
  simp; omega

/-- The third is the place in the block of keys. -/
theorem emb2 (t : Fin grid0.N) (y : S1x1x256x256.Idx) : (((cfg0.win 1).blk t).view.emb y (2 : Fin 4)).val = (y 2).val := by
  show 0 * 256 + 1 * (y 2).val = _; omega

/-- The fourth is the place in the block of queries. -/
theorem emb3 (t : Fin grid0.N) (y : S1x1x256x256.Idx) : (((cfg0.win 1).blk t).view.emb y (3 : Fin 4)).val = (y 3).val := by
  show 0 * 256 + 1 * (y 3).val = _; omega

/-- The array the call leaves. -/
theorem final (c : Dev nD) : (dats m 0 c).arrAt 1 cfg0.N = out (m ((c : Thread nD τ).loc main_arg0)) :=
  (dats m 0 c).arrAt_eq_of_covers 1 _ covers fun t _ y =>
    (congrFun (after0_1 m c t) y).trans (point m c t y _ (emb0 t y) (emb1 t y) (emb2 t y) (emb3 t y))

/-- The kernel's run: the result is `out` of the table, which ends unchanged. -/
theorem run : θ_run defs (onTc (τ := τ) (main (F := Ideal))) ⟨m, fun _ => 0, ρ⟩ fun r => ∀ c : Dev nD,
      r.2.mem ((c.tc : Thread nD τ).loc main_v0) = out (m ((c : Thread nD τ).loc main_arg0))
      ∧ r.2.mem ((c.tc : Thread nD τ).loc main_arg0) = m ((c.tc : Thread nD τ).loc main_arg0) :=
  (θ_run defs _ _).mono (fun r h c => ⟨((h.1 c).1 1).trans (final m c), h.2 c⟩)
    (θ_run_and (run_main m ρ) (unchanged m ρ))

end Kernel

/-! ## The reference -/

section Reference

open Cert.BiasRefIdeal.Read
open Cert.BiasRefIdeal (S32x256x256x1 S32x256x256x4 S32x256x256)

/-- The dimension numbers of a gather that takes, for every index of the result's first three axes, one row of a table of 32 rows of 4. -/
abbrev rowDims (wf : GatherDims.WF S32x4 S32x256x256x1 S32x256x256x4 [3] [0] [] [0] [] 3 ![1, 4]) :
    GatherDims S32x4 S32x256x256x1 S32x256x256x4 where
  offsetDims := [3]
  collapsedSliceDims := [0]
  operandBatchingDims := []
  startIndicesBatchingDims := []
  startIndexMap := [0]
  indexVectorDim := 3
  sliceSizes := ![1, 4]
  wf := wf

/-- That gather at a row number below 32 reads the row. -/
theorem gather_row (wf : GatherDims.WF S32x4 S32x256x256x1 S32x256x256x4 [3] [0] [] [0] [] 3 ![1, 4])
    (x : S32x4.Idx → EReal) (idx : IVec S32x256x256x1 32) (t : Fin 32) (k q : Fin 256) (h : Fin 4) (n : Nat) (hn : n < 32)
    (hi : (idx (ix4 t k q (0 : Fin 1))).toInt = (n : Int)) :
    Host.gather (rowDims wf) x idx (ix4 t k q h) = x (ix2 (Fin.ofNat 32 n) h) := by
  unfold Host.gather
  congr 1
  funext d
  refine Fin.ext ?_
  show (rowDims wf).start (ix4 t k q h) idx d + (rowDims wf).batchCoord (ix4 t k q h) d + (rowDims wf).offCoord (ix4 t k q h) d = _
  rw [GatherDims.batchCoord_eq_zero _ _ _ List.not_mem_nil]
  have h01 : d = 0 ∨ d = 1 := by
    match d with
    | ⟨0, _⟩ => exact .inl rfl
    | ⟨1, _⟩ => exact .inr rfl
  have h10 : ¬(1 : Fin 2) = 0 := by decide
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    have hsi : (rowDims wf).siIdx (ix4 t k q h) ⟨List.idxOf (0 : Fin 2) (rowDims wf).startIndexMap,
        List.idxOf_lt_length_iff.2 (List.mem_singleton.mpr rfl)⟩ = ix4 t k q (0 : Fin 1) := by
      funext c; refine Fin.ext ?_
      match c with
      | ⟨0, _⟩ => rfl
      | ⟨1, _⟩ => rfl
      | ⟨2, _⟩ => rfl
      | ⟨3, _⟩ => rfl
    show min (idx ((rowDims wf).siIdx (ix4 t k q h) ⟨List.idxOf (0 : Fin 2) (rowDims wf).startIndexMap,
        List.idxOf_lt_length_iff.2 (List.mem_singleton.mpr rfl)⟩)).toInt.toNat (32 - 1) + 0 + 0 = n % 32
    rw [hsi, hi]
    omega
  · unfold GatherDims.start
    rw [dif_neg (show ¬(1 : Fin 2) ∈ (rowDims wf).startIndexMap from fun h => h10 (List.mem_singleton.mp h))]
    unfold GatherDims.offCoord
    rw [dif_pos (show (1 : Fin 2) ∈ (rowDims wf).sKept from (GatherDims.mem_sKept _ _).mpr
      ⟨fun h => h10 (List.mem_singleton.mp h), List.not_mem_nil⟩)]
    show 0 + 0 + h.val = h.val
    omega

/-- The literal 128. -/
theorem literal_128 : Ideal.ofBits .f32 0x43000000#32 = ((128 : ℝ) : EReal) := by
  simp [Ideal.ofBits, Ideal.ieee, -EReal.coe_mul]; norm_num

/-- The literal 2. -/
theorem literal_2 : Ideal.ofBits .f32 0x40000000#32 = ((2 : ℝ) : EReal) := by
  simp [Ideal.ofBits, Ideal.ieee, -EReal.coe_mul]; norm_num

/-- The reference's distances. -/
theorem ref_dist (i : S32x256x256.Idx) : val_main_v13 (F := Ideal) i = dist (i 0).val (i 1).val (i 2).val := by
  rw [val_main_v13_apply, val_main_v11_apply, val_main_v12_apply, val_main_v10_apply, val_main_v8_apply, val_main_v9_apply, val_main_v7_apply,
    val_main_v1_apply, val_main_v6_apply, val_main_v0_apply, val_main_c_apply, val_main_v5_apply, val_main_v4_apply,
    val_main_v3_apply, val_main_v2_apply]
  rfl

/-- The reference's buckets. -/
theorem ref_bucket (i : S32x256x256.Idx) : val_main_v34 (F := Ideal) i = bucket (dist (i 0).val (i 1).val (i 2).val) := by
  have e : FloatOps.hostUnary (F := Ideal) (φ := .f32) .log
      (val_main_cst_2 (F := Ideal) (BiasRefIdeal.Read.idx_main_v23 i)) = ((Real.log 128 : ℝ) : EReal) := by
    rw [val_main_cst_2_apply]
    show Ideal.log (Ideal.ofBits .f32 0x43000000#32) = _
    rw [literal_128, Ideal.log_coe, if_neg (by norm_num)]
  rw [val_main_v34_apply, val_main_v33_apply, val_main_v31_apply, val_main_v29_apply, val_main_v27_apply, val_main_v26_apply, val_main_v24_apply,
    val_main_v23_apply, val_main_v22_apply, e, val_main_v21_apply, val_main_v20_apply, val_main_v18_apply, val_main_v17_apply, val_main_v15_apply,
    ref_dist, val_main_v14_apply, val_main_v16_apply, val_main_v19_apply, val_main_v25_apply, val_main_v28_apply,
    val_main_v30_apply, val_main_v32_apply]
  rfl

/-- A bucket read signed is its number. -/
theorem bucket_toInt (d : BitVec 32) : (bucket d).toInt = ((bucket d).toNat : Int) := by
  have := bucket_lt d
  rw [BitVec.toInt_eq_toNat_cond, if_pos (by omega)]

/-- The reference's result is `out` of the table. -/
theorem reference (x : S32x4.Idx → EReal) : val_main_v48 (F := Ideal) x = out x := by
  funext i
  have e : FloatOps.hostUnary (F := Ideal) (φ := .f32) .log
      (val_main_cst_10 (F := Ideal) (BiasRefIdeal.Read.idx_main_v46 i)) = ((Real.log 2 : ℝ) : EReal) := by
    rw [val_main_cst_10_apply]
    show Ideal.log (Ideal.ofBits .f32 0x40000000#32) = _
    rw [literal_2, Ideal.log_coe, if_neg (by norm_num)]
  have g : val_main_v41 (F := Ideal) x (BiasRefIdeal.Read.idx_main_v42 i)
      = x (ix2 (Fin.ofNat 32 (bucket (dist (i 1).val (i 2).val (i 3).val)).toNat) (i 0)) := by
    unfold val_main_v41
    rw [show BiasRefIdeal.Read.idx_main_v42 i = ix4 (i 1) (i 2) (i 3) (i 0) from ext4 rfl rfl rfl rfl]
    refine gather_row _ x _ (i 1) (i 2) (i 3) (i 0) _ (bucket_lt _) ?_
    rw [val_main_v40_apply, val_main_v39_apply, val_main_v36_apply, val_main_v35_apply, val_main_c_7_apply, ref_bucket,
      Layer.wrap_of_nonneg _ _ (bucket_toInt _), bucket_toInt]
    rfl
  rw [val_main_v48_apply, val_main_v47_apply, val_main_v42_apply, g, val_main_v46_apply, val_main_v45_apply, e, val_main_call1_v1_apply,
    val_main_v44_apply, ref_dist, val_main_v43_apply, val_main_c_9_apply, val_main_call1_v2_apply, val_main_call1_v0_apply, val_main_cst_11_apply]
  unfold out
  have hm : FloatOps.ofBits (F := Ideal) .f32 0xFF800000#32 = (⊥ : EReal) := by
    show Ideal.ofBits .f32 0xFF800000#32 = ⊥
    simp [Ideal.ofBits, Ideal.ieee]
  rw [hm]
  show Scalar.select _ (Ideal.div _ ((Real.log 2 : ℝ) : EReal)) ⊥ = _
  rw [Ideal.div_coe (Real.log_pos (by norm_num)).ne', one_div]

end Reference

/-- The names stand for what they are meant to: the two logarithms and −∞. -/
theorem preserves : Cert.preserves_Bias_BiasIdeal :=
  ⟨IdealRules.named_const.statement Cert.BiasIdeal.κ "log_128" .f32 _ _ rfl,
    IdealRules.named_const.statement Cert.BiasIdeal.κ "log2_e" .f32 _ _ rfl,
    IdealRules.named_const.statement Cert.BiasIdeal.κ "mask" .f32 _ _ rfl⟩

/-- From memories with the same table both programs end with the same result. -/
theorem algebraic : Cert.algebraic_BiasIdeal_BiasRefIdeal := by
  intro m g m' g' _ hm
  refine ⟨fun c => out (m ((c : Thread nD τ).loc main_arg0)), run m g, ?_⟩
  refine (θ_run _ _ _).mono (fun r h c => ?_) (Cert.BiasRefIdeal.Value.run m' g')
  refine ⟨(h c).1.trans ?_, (h c).2⟩
  rw [BiasRefIdeal.Read.val_main_v48_eq, hm c]
  exact reference _

end Cert.Proof.Bias

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Loops
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Loops
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Inproj
public import proofs.«01_k».proof.Proof.Gen.Inproj.Skeleton
public import proofs.«01_k».proof.Proof.Gen.Inproj.Loops
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Loops
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Run
public import proofs.«01_k».proof.Proof.Gen.OprojRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasRefIdeal.Run
public import proofs.«01_k».proof.Proof.Gen.BiasRefIdeal.Read
public import proofs.«01_k».proof.Proof.Gen.Pre_mlp_layer
public import proofs.«01_k».proof.Proof.Gen.Pre_inproj_layer
public import proofs.«01_k».proof.Proof.Gen.Pre_merge_layer
public import proofs.«01_k».proof.Proof.Gen.Pre_oproj_layer
public import proofs.«01_k».proof.Proof.References
public import proofs.«01_k».proof.Proof.MlpTables
public import proofs.«01_k».proof.Proof.Mlp
public import proofs.«01_k».proof.Proof.InprojTables
public import proofs.«01_k».proof.Proof.Inproj
public import proofs.«01_k».proof.Proof.MergeTables
public import proofs.«01_k».proof.Proof.Merge
public import proofs.«01_k».proof.Proof.OprojTables
public import proofs.«01_k».proof.Proof.Oproj
public import proofs.«01_k».proof.Proof.Bias
public import Idealize.ShloMosaic.Adequacy
public import Idealize.ShloMosaic.Init

@[expose] public section

noncomputable section

namespace Cert.Proof

open Idealize.ShloMosaic Idealize.SL.Sem Cert.Mlp

/-- Everything that is claimed. -/
theorem claim : Cert.Claim := ⟨
  Cert.Mlp.Gen.facts, Cert.MlpIdeal.Gen.facts, Cert.MlpRefIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  Cert.Oproj.Gen.facts, Cert.OprojIdeal.Gen.facts, Cert.OprojRefIdeal.Gen.facts,
  Cert.Bias.Gen.facts, Cert.BiasIdeal.Gen.facts, Cert.BiasRefIdeal.Gen.facts,
  Cert.Pre_mlp_layer.Gen.facts, Cert.Pre_inproj_layer.Gen.facts, Cert.Pre_merge_layer.Gen.facts,
  Cert.Pre_oproj_layer.Gen.facts,
  Cert.Proof.Tables.Mlp.quiescent,
  Cert.Proof.Tables.MlpIdeal.quiescent,
  Cert.Proof.References.mlp,
  fun m ρ _ => Cert.Proof.References.mlp m ρ trivial,
  Cert.Proof.Tables.Inproj.quiescent,
  Cert.Proof.Tables.InprojIdeal.quiescent,
  Cert.Proof.References.inproj,
  fun m ρ _ => Cert.Proof.References.inproj m ρ trivial,
  Cert.Proof.Tables.Merge.quiescent,
  Cert.Proof.Tables.MergeIdeal.quiescent,
  Cert.Proof.References.merge,
  fun m ρ _ => Cert.Proof.References.merge m ρ trivial,
  Cert.Proof.Tables.Oproj.quiescent,
  Cert.Proof.Tables.OprojIdeal.quiescent,
  Cert.Proof.References.oproj,
  fun m ρ _ => Cert.Proof.References.oproj m ρ trivial,
  fun m ρ _ => Cert.Bias.Gen.frame m ρ,
  fun m ρ _ => Cert.BiasIdeal.Gen.frame m ρ,
  Cert.Proof.References.bias,
  trivial, Cert.Proof.Mlp.algebraic,
  trivial, Cert.Proof.Inproj.algebraic,
  trivial, Cert.Proof.Merge.algebraic,
  trivial, Cert.Proof.Oproj.algebraic,
  Cert.Proof.Bias.preserves, Cert.Proof.Bias.algebraic⟩

end Cert.Proof

end
